-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S1 : Shape := ⟨1, ![1]⟩
abbrev S256x2048 : Shape := ⟨2, ![256, 2048]⟩
abbrev S256x4096 : Shape := ⟨2, ![256, 4096]⟩
abbrev S2x512x2048 : Shape := ⟨3, ![2, 512, 2048]⟩
abbrev S16 : Shape := ⟨1, ![16]⟩
abbrev S2 : Shape := ⟨1, ![2]⟩
abbrev S_ : Shape := ⟨0, ![]⟩
abbrev S1x512x2048 : Shape := ⟨3, ![1, 512, 2048]⟩
abbrev S512x2048 : Shape := ⟨2, ![512, 2048]⟩
abbrev S256x256 : Shape := ⟨2, ![256, 256]⟩

abbrev nBuf : Space → Nat
  | .hbm => 5
  | .vmem => 6
  | .smem => 2
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S4096x256, .fp8e4m3⟩
  | .local _ .vmem, ⟨3, _⟩ => ⟨S256x4096, .fp8e4m3⟩
  | .local _ .vmem, ⟨4, _⟩ => ⟨S4096x2048, .fp8e5m2⟩
  | .local _ .vmem, ⟨5, _⟩ => ⟨S2x512x2048, .f32⟩
  | .local _ .smem, ⟨0, _⟩ => ⟨S1, .f32⟩
  | .local _ .smem, ⟨1, _⟩ => ⟨S1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_305 : BitVec 32 := 0#32
  let c0_i32_303 : BitVec 32 := 0#32
  let c1_i32_304 : BitVec 32 := 1#32
  let v439 : BitVec 32 := Scalar.muli c0_i32_303 c1_i32_304
  let v440 : BitVec 32 := Scalar.addi c0_i32_305 v439
  v440.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_305 : BitVec 32 := 0#32
  let c1_i32_303 : BitVec 32 := 1#32
  let c1_i32_304 : BitVec 32 := 1#32
  let v439 : BitVec 32 := Scalar.muli c1_i32_303 c1_i32_304
  let v440 : BitVec 32 := Scalar.addi c0_i32_305 v439
  v440.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_305 : BitVec 32 := 0#32
  let c2_i32_303 : BitVec 32 := 2#32
  let c1_i32_304 : BitVec 32 := 1#32
  let v439 : BitVec 32 := Scalar.muli c2_i32_303 c1_i32_304
  let v440 : BitVec 32 := Scalar.addi c0_i32_305 v439
  v440.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_305 : BitVec 32 := 0#32
  let c3_i32_303 : BitVec 32 := 3#32
  let c1_i32_304 : BitVec 32 := 1#32
  let v439 : BitVec 32 := Scalar.muli c3_i32_303 c1_i32_304
  let v440 : BitVec 32 := Scalar.addi c0_i32_305 v439
  v440.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_305 : BitVec 32 := 0#32
  let c4_i32_303 : BitVec 32 := 4#32
  let c1_i32_304 : BitVec 32 := 1#32
  let v439 : BitVec 32 := Scalar.muli c4_i32_303 c1_i32_304
  let v440 : BitVec 32 := Scalar.addi c0_i32_305 v439
  v440.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_305 : BitVec 32 := 0#32
  let c5_i32_303 : BitVec 32 := 5#32
  let c1_i32_304 : BitVec 32 := 1#32
  let v439 : BitVec 32 := Scalar.muli c5_i32_303 c1_i32_304
  let v440 : BitVec 32 := Scalar.addi c0_i32_305 v439
  v440.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_305 : BitVec 32 := 0#32
  let c6_i32_303 : BitVec 32 := 6#32
  let c1_i32_304 : BitVec 32 := 1#32
  let v439 : BitVec 32 := Scalar.muli c6_i32_303 c1_i32_304
  let v440 : BitVec 32 := Scalar.addi c0_i32_305 v439
  v440.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_305 : BitVec 32 := 0#32
  let c7_i32_303 : BitVec 32 := 7#32
  let c1_i32_304 : BitVec 32 := 1#32
  let v439 : BitVec 32 := Scalar.muli c7_i32_303 c1_i32_304
  let v440 : BitVec 32 := Scalar.addi c0_i32_305 v439
  v440.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_305 : BitVec 32 := 0#32
  let c8_i32_303 : BitVec 32 := 8#32
  let c1_i32_304 : BitVec 32 := 1#32
  let v439 : BitVec 32 := Scalar.muli c8_i32_303 c1_i32_304
  let v440 : BitVec 32 := Scalar.addi c0_i32_305 v439
  v440.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_305 : BitVec 32 := 0#32
  let c9_i32_303 : BitVec 32 := 9#32
  let c1_i32_304 : BitVec 32 := 1#32
  let v439 : BitVec 32 := Scalar.muli c9_i32_303 c1_i32_304
  let v440 : BitVec 32 := Scalar.addi c0_i32_305 v439
  v440.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_305 : BitVec 32 := 0#32
  let c10_i32_303 : BitVec 32 := 10#32
  let c1_i32_304 : BitVec 32 := 1#32
  let v439 : BitVec 32 := Scalar.muli c10_i32_303 c1_i32_304
  let v440 : BitVec 32 := Scalar.addi c0_i32_305 v439
  v440.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_305 : BitVec 32 := 0#32
  let c11_i32_303 : BitVec 32 := 11#32
  let c1_i32_304 : BitVec 32 := 1#32
  let v439 : BitVec 32 := Scalar.muli c11_i32_303 c1_i32_304
  let v440 : BitVec 32 := Scalar.addi c0_i32_305 v439
  v440.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_305 : BitVec 32 := 0#32
  let c12_i32_303 : BitVec 32 := 12#32
  let c1_i32_304 : BitVec 32 := 1#32
  let v439 : BitVec 32 := Scalar.muli c12_i32_303 c1_i32_304
  let v440 : BitVec 32 := Scalar.addi c0_i32_305 v439
  v440.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_305 : BitVec 32 := 0#32
  let c13_i32_303 : BitVec 32 := 13#32
  let c1_i32_304 : BitVec 32 := 1#32
  let v439 : BitVec 32 := Scalar.muli c13_i32_303 c1_i32_304
  let v440 : BitVec 32 := Scalar.addi c0_i32_305 v439
  v440.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_305 : BitVec 32 := 0#32
  let c14_i32_303 : BitVec 32 := 14#32
  let c1_i32_304 : BitVec 32 := 1#32
  let v439 : BitVec 32 := Scalar.muli c14_i32_303 c1_i32_304
  let v440 : BitVec 32 := Scalar.addi c0_i32_305 v439
  v440.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_305 : BitVec 32 := 0#32
  let c15_i32_303 : BitVec 32 := 15#32
  let c1_i32_304 : BitVec 32 := 1#32
  let v439 : BitVec 32 := Scalar.muli c15_i32_303 c1_i32_304
  let v440 : BitVec 32 := Scalar.addi c0_i32_305 v439
  v440.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_27 : BitVec 32 := 0#32
  let v63 : BitVec 1 := Scalar.cmpi .ne v2 c0_i32_27
  let v64 : BitVec 32 := Scalar.extui v63
  let c0_i32_28 : BitVec 32 := 0#32
  let v65 : BitVec 1 := Scalar.cmpi .ne v64 c0_i32_28
  v65

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev17 : Nat :=
  let c0_i32_306 : BitVec 32 := 0#32
  let c0_i32_304 : BitVec 32 := 0#32
  let c1_i32_305 : BitVec 32 := 1#32
  let v440 : BitVec 32 := Scalar.muli c0_i32_304 c1_i32_305
  let v441 : BitVec 32 := Scalar.addi c0_i32_306 v440
  v441.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_32 : BitVec 32 := 1#32
  let v72 : BitVec 1 := Scalar.cmpi .ne v2 c1_i32_32
  let v73 : BitVec 32 := Scalar.extui v72
  let c0_i32_33 : BitVec 32 := 0#32
  let v74 : BitVec 1 := Scalar.cmpi .ne v73 c0_i32_33
  v74

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev18 : Nat :=
  let c0_i32_306 : BitVec 32 := 0#32
  let c1_i32_304 : BitVec 32 := 1#32
  let c1_i32_305 : BitVec 32 := 1#32
  let v440 : BitVec 32 := Scalar.muli c1_i32_304 c1_i32_305
  let v441 : BitVec 32 := Scalar.addi c0_i32_306 v440
  v441.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_37 : BitVec 32 := 2#32
  let v81 : BitVec 1 := Scalar.cmpi .ne v2 c2_i32_37
  let v82 : BitVec 32 := Scalar.extui v81
  let c0_i32_38 : BitVec 32 := 0#32
  let v83 : BitVec 1 := Scalar.cmpi .ne v82 c0_i32_38
  v83

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev19 : Nat :=
  let c0_i32_306 : BitVec 32 := 0#32
  let c2_i32_304 : BitVec 32 := 2#32
  let c1_i32_305 : BitVec 32 := 1#32
  let v440 : BitVec 32 := Scalar.muli c2_i32_304 c1_i32_305
  let v441 : BitVec 32 := Scalar.addi c0_i32_306 v440
  v441.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_42 : BitVec 32 := 3#32
  let v90 : BitVec 1 := Scalar.cmpi .ne v2 c3_i32_42
  let v91 : BitVec 32 := Scalar.extui v90
  let c0_i32_43 : BitVec 32 := 0#32
  let v92 : BitVec 1 := Scalar.cmpi .ne v91 c0_i32_43
  v92

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev20 : Nat :=
  let c0_i32_306 : BitVec 32 := 0#32
  let c3_i32_304 : BitVec 32 := 3#32
  let c1_i32_305 : BitVec 32 := 1#32
  let v440 : BitVec 32 := Scalar.muli c3_i32_304 c1_i32_305
  let v441 : BitVec 32 := Scalar.addi c0_i32_306 v440
  v441.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_47 : BitVec 32 := 4#32
  let v99 : BitVec 1 := Scalar.cmpi .ne v2 c4_i32_47
  let v100 : BitVec 32 := Scalar.extui v99
  let c0_i32_48 : BitVec 32 := 0#32
  let v101 : BitVec 1 := Scalar.cmpi .ne v100 c0_i32_48
  v101

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev21 : Nat :=
  let c0_i32_306 : BitVec 32 := 0#32
  let c4_i32_304 : BitVec 32 := 4#32
  let c1_i32_305 : BitVec 32 := 1#32
  let v440 : BitVec 32 := Scalar.muli c4_i32_304 c1_i32_305
  let v441 : BitVec 32 := Scalar.addi c0_i32_306 v440
  v441.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_52 : BitVec 32 := 5#32
  let v108 : BitVec 1 := Scalar.cmpi .ne v2 c5_i32_52
  let v109 : BitVec 32 := Scalar.extui v108
  let c0_i32_53 : BitVec 32 := 0#32
  let v110 : BitVec 1 := Scalar.cmpi .ne v109 c0_i32_53
  v110

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev22 : Nat :=
  let c0_i32_306 : BitVec 32 := 0#32
  let c5_i32_304 : BitVec 32 := 5#32
  let c1_i32_305 : BitVec 32 := 1#32
  let v440 : BitVec 32 := Scalar.muli c5_i32_304 c1_i32_305
  let v441 : BitVec 32 := Scalar.addi c0_i32_306 v440
  v441.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_57 : BitVec 32 := 6#32
  let v117 : BitVec 1 := Scalar.cmpi .ne v2 c6_i32_57
  let v118 : BitVec 32 := Scalar.extui v117
  let c0_i32_58 : BitVec 32 := 0#32
  let v119 : BitVec 1 := Scalar.cmpi .ne v118 c0_i32_58
  v119

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev23 : Nat :=
  let c0_i32_306 : BitVec 32 := 0#32
  let c6_i32_304 : BitVec 32 := 6#32
  let c1_i32_305 : BitVec 32 := 1#32
  let v440 : BitVec 32 := Scalar.muli c6_i32_304 c1_i32_305
  let v441 : BitVec 32 := Scalar.addi c0_i32_306 v440
  v441.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_62 : BitVec 32 := 7#32
  let v126 : BitVec 1 := Scalar.cmpi .ne v2 c7_i32_62
  let v127 : BitVec 32 := Scalar.extui v126
  let c0_i32_63 : BitVec 32 := 0#32
  let v128 : BitVec 1 := Scalar.cmpi .ne v127 c0_i32_63
  v128

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev24 : Nat :=
  let c0_i32_306 : BitVec 32 := 0#32
  let c7_i32_304 : BitVec 32 := 7#32
  let c1_i32_305 : BitVec 32 := 1#32
  let v440 : BitVec 32 := Scalar.muli c7_i32_304 c1_i32_305
  let v441 : BitVec 32 := Scalar.addi c0_i32_306 v440
  v441.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_67 : BitVec 32 := 8#32
  let v135 : BitVec 1 := Scalar.cmpi .ne v2 c8_i32_67
  let v136 : BitVec 32 := Scalar.extui v135
  let c0_i32_68 : BitVec 32 := 0#32
  let v137 : BitVec 1 := Scalar.cmpi .ne v136 c0_i32_68
  v137

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev25 : Nat :=
  let c0_i32_306 : BitVec 32 := 0#32
  let c8_i32_304 : BitVec 32 := 8#32
  let c1_i32_305 : BitVec 32 := 1#32
  let v440 : BitVec 32 := Scalar.muli c8_i32_304 c1_i32_305
  let v441 : BitVec 32 := Scalar.addi c0_i32_306 v440
  v441.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_72 : BitVec 32 := 9#32
  let v144 : BitVec 1 := Scalar.cmpi .ne v2 c9_i32_72
  let v145 : BitVec 32 := Scalar.extui v144
  let c0_i32_73 : BitVec 32 := 0#32
  let v146 : BitVec 1 := Scalar.cmpi .ne v145 c0_i32_73
  v146

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev26 : Nat :=
  let c0_i32_306 : BitVec 32 := 0#32
  let c9_i32_304 : BitVec 32 := 9#32
  let c1_i32_305 : BitVec 32 := 1#32
  let v440 : BitVec 32 := Scalar.muli c9_i32_304 c1_i32_305
  let v441 : BitVec 32 := Scalar.addi c0_i32_306 v440
  v441.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_77 : BitVec 32 := 10#32
  let v153 : BitVec 1 := Scalar.cmpi .ne v2 c10_i32_77
  let v154 : BitVec 32 := Scalar.extui v153
  let c0_i32_78 : BitVec 32 := 0#32
  let v155 : BitVec 1 := Scalar.cmpi .ne v154 c0_i32_78
  v155

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev27 : Nat :=
  let c0_i32_306 : BitVec 32 := 0#32
  let c10_i32_304 : BitVec 32 := 10#32
  let c1_i32_305 : BitVec 32 := 1#32
  let v440 : BitVec 32 := Scalar.muli c10_i32_304 c1_i32_305
  let v441 : BitVec 32 := Scalar.addi c0_i32_306 v440
  v441.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_82 : BitVec 32 := 11#32
  let v162 : BitVec 1 := Scalar.cmpi .ne v2 c11_i32_82
  let v163 : BitVec 32 := Scalar.extui v162
  let c0_i32_83 : BitVec 32 := 0#32
  let v164 : BitVec 1 := Scalar.cmpi .ne v163 c0_i32_83
  v164

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev28 : Nat :=
  let c0_i32_306 : BitVec 32 := 0#32
  let c11_i32_304 : BitVec 32 := 11#32
  let c1_i32_305 : BitVec 32 := 1#32
  let v440 : BitVec 32 := Scalar.muli c11_i32_304 c1_i32_305
  let v441 : BitVec 32 := Scalar.addi c0_i32_306 v440
  v441.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_87 : BitVec 32 := 12#32
  let v171 : BitVec 1 := Scalar.cmpi .ne v2 c12_i32_87
  let v172 : BitVec 32 := Scalar.extui v171
  let c0_i32_88 : BitVec 32 := 0#32
  let v173 : BitVec 1 := Scalar.cmpi .ne v172 c0_i32_88
  v173

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev29 : Nat :=
  let c0_i32_306 : BitVec 32 := 0#32
  let c12_i32_304 : BitVec 32 := 12#32
  let c1_i32_305 : BitVec 32 := 1#32
  let v440 : BitVec 32 := Scalar.muli c12_i32_304 c1_i32_305
  let v441 : BitVec 32 := Scalar.addi c0_i32_306 v440
  v441.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_92 : BitVec 32 := 13#32
  let v180 : BitVec 1 := Scalar.cmpi .ne v2 c13_i32_92
  let v181 : BitVec 32 := Scalar.extui v180
  let c0_i32_93 : BitVec 32 := 0#32
  let v182 : BitVec 1 := Scalar.cmpi .ne v181 c0_i32_93
  v182

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev30 : Nat :=
  let c0_i32_306 : BitVec 32 := 0#32
  let c13_i32_304 : BitVec 32 := 13#32
  let c1_i32_305 : BitVec 32 := 1#32
  let v440 : BitVec 32 := Scalar.muli c13_i32_304 c1_i32_305
  let v441 : BitVec 32 := Scalar.addi c0_i32_306 v440
  v441.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_97 : BitVec 32 := 14#32
  let v189 : BitVec 1 := Scalar.cmpi .ne v2 c14_i32_97
  let v190 : BitVec 32 := Scalar.extui v189
  let c0_i32_98 : BitVec 32 := 0#32
  let v191 : BitVec 1 := Scalar.cmpi .ne v190 c0_i32_98
  v191

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev31 : Nat :=
  let c0_i32_306 : BitVec 32 := 0#32
  let c14_i32_304 : BitVec 32 := 14#32
  let c1_i32_305 : BitVec 32 := 1#32
  let v440 : BitVec 32 := Scalar.muli c14_i32_304 c1_i32_305
  let v441 : BitVec 32 := Scalar.addi c0_i32_306 v440
  v441.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_102 : BitVec 32 := 15#32
  let v198 : BitVec 1 := Scalar.cmpi .ne v2 c15_i32_102
  let v199 : BitVec 32 := Scalar.extui v198
  let c0_i32_103 : BitVec 32 := 0#32
  let v200 : BitVec 1 := Scalar.cmpi .ne v199 c0_i32_103
  v200

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 2 → Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_302 : BitVec 32 := 256#32
  let v439 : BitVec 32 := Scalar.muli v2 c256_i32_302
  ![0, v439.toNat]
def k0_dev32 : Nat :=
  let c0_i32_306 : BitVec 32 := 0#32
  let c15_i32_304 : BitVec 32 := 15#32
  let c1_i32_305 : BitVec 32 := 1#32
  let v440 : BitVec 32 := Scalar.muli c15_i32_304 c1_i32_305
  let v441 : BitVec 32 := Scalar.addi c0_i32_306 v440
  v441.toNat
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v201 : BitVec 32 := Scalar.muli v2 c256_i32
  let v202 : Index := Scalar.indexCast v201
  let c0_104 : Index := 0#32
  ![v202.toNat, 0]
def k0_off34 (d0 : Dev nD) : Fin 2 → Nat :=
  let c0_106 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_105 : BitVec 32 := 256#32
  let v204 : BitVec 32 := Scalar.muli v2 c256_i32_105
  let v205 : Index := Scalar.indexCast v204
  ![0, v205.toNat]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Common.lean ====
/-
# The exchange's protocol: cells, schedule, contents, levels

Sixteen devices exchange blocks all to all. Device `c` casts its column panel of `x` block of rows by block of rows
(`x8`), and sends row block `e` to device `e`, where it lands as column block `c` of the gathered panel (`gx`). Before
any transfer the devices meet at the barrier semaphore: device `e`'s signal to device `c` hands over the column block
`c` of `e`'s gathered panel, the destination of `c`'s transfer to `e`.

Everything is stated over `Cert.KernelIdeal` for any float values `F`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Pipeline.Value
public import Idealize.ShloMosaic.Lib.Pipeline.ValueKit
public import Idealize.ShloMosaic.Lib.Pointwise.Reshape
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the exchange's rounds, the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL

/-- The exchange's rounds inside the whole algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

instance : (ER (F := F)).LandsIn (upEmb : UEmb _ 𝕄) := by unfold ER; infer_instance

/-- The counters the local copies of `w` count on. -/
abbrev EC : UEmb Counters (MT nD τ sig Unit (Elt F) ℕ UU ℕ) := countersEmb

/-! ## The memrefs -/

abbrev xM : Memref sig .tc .vmem S4096x256 .f32 := Memref.whole cc0_stg0_0
abbrev wM : Memref sig .tc .hbm S4096x2048 .f32 := Memref.whole main_arg1
abbrev sxM : Memref sig .tc .smem S1 .f32 := Memref.whole cc0_stg1_0
abbrev swM : Memref sig .tc .smem S1 .f32 := Memref.whole cc0_stg2_0
abbrev oM : Memref sig .tc .vmem S256x2048 .f32 := Memref.whole cc0_stg3_0
abbrev x8M : Memref sig .tc .vmem S4096x256 .fp8e4m3 := Memref.whole cc0_scratch0
abbrev gxM : Memref sig .tc .vmem S256x4096 .fp8e4m3 := Memref.whole cc0_scratch1
abbrev w8M : Memref sig .tc .vmem S4096x2048 .fp8e5m2 := Memref.whole cc0_scratch2
abbrev wsM : Memref sig .tc .vmem S2x512x2048 .f32 := Memref.whole cc0_scratch3

/-! ## The rectangles: row blocks, column blocks, slots -/

theorem inb_row (e : Fin 16) : ∀ a, (![256 * e.val, 0] : Fin 2 → Nat) a + S256x256.size a ≤ S4096x256.size a := by
  revert e; decide
theorem inb_col (e : Fin 16) : ∀ a, (![0, 256 * e.val] : Fin 2 → Nat) a + S256x256.size a ≤ S256x4096.size a := by
  revert e; decide
theorem inb_wrow (j : Fin 8) : ∀ a, (![512 * j.val, 0] : Fin 2 → Nat) a + S512x2048.size a ≤ S4096x2048.size a := by
  revert j; decide
theorem inb_slot (s : Fin 2) : ∀ a, (![s.val, 0, 0] : Fin 3 → Nat) a + S1x512x2048.size a ≤ S2x512x2048.size a := by
  revert s; decide
theorem inb_sem (e : Fin 16) : ∀ a, (![e.val] : Fin 1 → Nat) a + S1.size a ≤ S16.size a := by
  revert e; decide
theorem inb_wsem (s : Fin 2) : ∀ a, (![s.val] : Fin 1 → Nat) a + S1.size a ≤ S2.size a := by
  revert s; decide

/-- Row block `e` of the panel of `x`. -/
abbrev rowR (e : Fin 16) : Rect S4096x256 := Rect.unit (s := S4096x256) ![256 * e.val, 0] S256x256.size (inb_row e)
/-- Column block `e` of the gathered panel. -/
abbrev colR (e : Fin 16) : Rect S256x4096 := Rect.unit (s := S256x4096) ![0, 256 * e.val] S256x256.size (inb_col e)
/-- Row block `j` of `w`. -/
abbrev wrowR (j : Fin 8) : Rect S4096x2048 := Rect.unit (s := S4096x2048) ![512 * j.val, 0] S512x2048.size (inb_wrow j)
/-- Slot `s` of the double buffer. -/
abbrev slotR (s : Fin 2) : Rect S2x512x2048 := Rect.unit (s := S2x512x2048) ![s.val, 0, 0] S1x512x2048.size (inb_slot s)

theorem mem_rowR (e : Fin 16) (i : S4096x256.Idx) : i ∈ (rowR e).set ↔ (i 0).val / 256 = e.val := by
  rw [Rect.mem_set_unit]
  have h1 : (i 1).val < 256 := (i 1).isLt
  refine ⟨fun h => ?_, fun h a => ?_⟩
  · have := h 0
    simp only [Matrix.cons_val_zero] at this
    have h3 : 256 * e.val ≤ (i 0).val ∧ (i 0).val < 256 * e.val + 256 := this
    omega
  · match a with
    | 0 => show 256 * e.val ≤ (i 0).val ∧ (i 0).val < 256 * e.val + 256; omega
    | 1 => show 0 ≤ (i 1).val ∧ (i 1).val < 0 + 256; omega

theorem mem_colR (e : Fin 16) (i : S256x4096.Idx) : i ∈ (colR e).set ↔ (i 1).val / 256 = e.val := by
  rw [Rect.mem_set_unit]
  have h1 : (i 0).val < 256 := (i 0).isLt
  refine ⟨fun h => ?_, fun h a => ?_⟩
  · have h3 : 256 * e.val ≤ (i 1).val ∧ (i 1).val < 256 * e.val + 256 := h 1
    omega
  · match a with
    | 0 => show 0 ≤ (i 0).val ∧ (i 0).val < 0 + 256; omega
    | 1 => show 256 * e.val ≤ (i 1).val ∧ (i 1).val < 256 * e.val + 256; omega

theorem mem_wrowR (j : Fin 8) (i : S4096x2048.Idx) : i ∈ (wrowR j).set ↔ (i 0).val / 512 = j.val := by
  rw [Rect.mem_set_unit]
  have h1 : (i 1).val < 2048 := (i 1).isLt
  refine ⟨fun h => ?_, fun h a => ?_⟩
  · have h3 : 512 * j.val ≤ (i 0).val ∧ (i 0).val < 512 * j.val + 512 := h 0
    omega
  · match a with
    | 0 => show 512 * j.val ≤ (i 0).val ∧ (i 0).val < 512 * j.val + 512; omega
    | 1 => show 0 ≤ (i 1).val ∧ (i 1).val < 0 + 2048; omega

theorem mem_slotR (s : Fin 2) (i : S2x512x2048.Idx) : i ∈ (slotR s).set ↔ (i 0).val = s.val := by
  rw [Rect.mem_set_unit]
  have h1 : (i 1).val < 512 := (i 1).isLt
  have h2 : (i 2).val < 2048 := (i 2).isLt
  refine ⟨fun h => ?_, fun h a => ?_⟩
  · have h3 : s.val ≤ (i 0).val ∧ (i 0).val < s.val + 1 := h 0
    omega
  · match a with
    | 0 => show s.val ≤ (i 0).val ∧ (i 0).val < s.val + 1; omega
    | 1 => show 0 ≤ (i 1).val ∧ (i 1).val < 0 + 512; omega
    | 2 => show 0 ≤ (i 2).val ∧ (i 2).val < 0 + 2048; omega

/-- A family of element sets told apart by a number is pairwise disjoint; -/
theorem disjoint_of_key {α β : Type} [DecidableEq α] {S : β → Finset α} {key : α → ℕ} {val : β → ℕ}
    (hv : Function.Injective val) (h : ∀ b i, i ∈ S b ↔ key i = val b) (b b' : β) (hb : b ≠ b') : Disjoint (S b) (S b') :=
  Finset.disjoint_left.mpr fun i hi hi' => hb (hv (((h b i).mp hi).symm.trans ((h b' i).mp hi')))

/-- and covers the buffer when every number met is one of the family's. -/
theorem cover_of_key {α : Type} [Fintype α] [DecidableEq α] {n : ℕ} {S : Fin n → Finset α} {key : α → ℕ}
    (h : ∀ b i, i ∈ S b ↔ key i = b.val) (hk : ∀ i, key i < n) : Finset.univ.biUnion S = Finset.univ :=
  Finset.eq_univ_iff_forall.mpr fun i => Finset.mem_biUnion.mpr ⟨⟨key i, hk i⟩, Finset.mem_univ _, (h _ i).mpr rfl⟩

theorem row_disj : ∀ b b', b ≠ b' → Disjoint (rowR b).set (rowR b').set := disjoint_of_key Fin.val_injective mem_rowR
theorem row_cover : Finset.univ.biUnion (fun e => (rowR e).set) = Finset.univ :=
  cover_of_key mem_rowR fun i => by have : (i 0).val < 4096 := (i 0).isLt; omega
theorem col_disj : ∀ b b', b ≠ b' → Disjoint (colR b).set (colR b').set := disjoint_of_key Fin.val_injective mem_colR
theorem col_cover : Finset.univ.biUnion (fun e => (colR e).set) = Finset.univ :=
  cover_of_key mem_colR fun i => by have : (i 1).val < 4096 := (i 1).isLt; omega
theorem wrow_disj : ∀ b b', b ≠ b' → Disjoint (wrowR b).set (wrowR b').set := disjoint_of_key Fin.val_injective mem_wrowR
theorem wrow_cover : Finset.univ.biUnion (fun e => (wrowR e).set) = Finset.univ :=
  cover_of_key mem_wrowR fun i => by have : (i 0).val < 4096 := (i 0).isLt; omega
theorem slot_disj : ∀ b b', b ≠ b' → Disjoint (slotR b).set (slotR b').set := disjoint_of_key Fin.val_injective mem_slotR
theorem slot_cover : Finset.univ.biUnion (fun e => (slotR e).set) = Finset.univ :=
  cover_of_key mem_slotR fun i => (i 0).isLt

/-! ## The semaphores and cells -/

theorem bar_some : (sig.barrierSem 0).isSome = true := rfl
/-- The runtime's barrier semaphore of collective id 0. -/
abbrev barA : Sems sig S_ := SemArray.scalar (sig.barrier 0 bar_some)
abbrev barS : Sem sig := barA.sem
/-- The send semaphore of the transfer to device `e`, the receive semaphore of the one from device `e`; -/
abbrev sendS (e : Fin 16) : DmaSem sig :=
  ((cc0_scratch4.slice (Rect.unit (s := S16) ![e.val] S1.size (inb_sem e))).squeeze S_ squeezes_S1_S_).sem
abbrev recvS (e : Fin 16) : DmaSem sig :=
  ((cc0_scratch5.slice (Rect.unit (s := S16) ![e.val] S1.size (inb_sem e))).squeeze S_ squeezes_S1_S_).sem
/-- the semaphore of the copy of a block of `w` into slot `s`. -/
abbrev wS (s : Fin 2) : DmaSem sig :=
  ((cc0_scratch6.slice (Rect.unit (s := S2) ![s.val] S1.size (inb_wsem s))).squeeze S_ squeezes_S1_S_).sem

theorem sendS_val : ∀ e : Fin 16, (sendS e).val = 4 + e.val := by decide
theorem recvS_val : ∀ e : Fin 16, (recvS e).val = 20 + e.val := by decide
theorem wS_val : ∀ s : Fin 2, (wS s).val = 36 + s.val := by decide

/-- Which of the exchange's semaphores: the barrier's, a send, a receive. -/
inductive Role where
  | bar
  | send (e : Fin 16)
  | recv (e : Fin 16)
deriving DecidableEq

/-- A role is the barrier's, or a send's or receive's of a number. -/
def roleEquiv : Unit ⊕ (Fin 16 ⊕ Fin 16) ≃ Role where
  toFun
    | .inl _ => .bar
    | .inr (.inl e) => .send e
    | .inr (.inr e) => .recv e
  invFun
    | .bar => .inl ()
    | .send e => .inr (.inl e)
    | .recv e => .inr (.inr e)
  left_inv x := by rcases x with _ | _ | _ <;> rfl
  right_inv x := by cases x <;> rfl

instance : Fintype Role := Fintype.ofEquiv _ roleEquiv

/-- The semaphore in a role; -/
def csem : Role → SemLoc sig
  | .bar => .reg barS
  | .send e => .dma (sendS e)
  | .recv e => .dma (recvS e)

/-- and a semaphore's role, if it has one. -/
def role : SemLoc sig → Option Role
  | .reg s => if s = barS then some .bar else none
  | .dma q =>
    if h : 4 ≤ q.val ∧ q.val < 20 then some (.send ⟨q.val - 4, by omega⟩)
    else if h : 20 ≤ q.val ∧ q.val < 36 then some (.recv ⟨q.val - 20, by omega⟩) else none

theorem role_csem (k : Role) : role (csem k) = some k := by
  cases k with
  | bar => simp only [csem, role]; exact if_pos trivial
  | send e =>
    have h := sendS_val e
    simp only [csem, role]
    rw [dif_pos (by rw [h]; have := e.isLt; omega)]
    exact congrArg some (congrArg Role.send (Fin.ext (show (sendS e).val - 4 = e.val by rw [h]; omega)))
  | recv e =>
    have h := recvS_val e
    simp only [csem, role]
    rw [dif_neg (by rw [h]; omega), dif_pos (by rw [h]; have := e.isLt; omega)]
    exact congrArg some (congrArg Role.recv (Fin.ext (show (recvS e).val - 20 = e.val by rw [h]; omega)))

theorem csem_injective : Function.Injective csem := fun k k' h => by
  have := congrArg role h
  rw [role_csem, role_csem] at this
  exact Option.some.inj this

abbrev barCell (c : Dev nD) : GSem nD τ sig := ((c : Thread nD τ), .reg barS)
abbrev sendCell (c : Dev nD) (e : Fin 16) : GSem nD τ sig := ((c : Thread nD τ), .dma (sendS e))
abbrev recvCell (c : Dev nD) (e : Fin 16) : GSem nD τ sig := ((c : Thread nD τ), .dma (recvS e))
abbrev wCell (c : Dev nD) (s : Fin 2) : GSem nD τ sig := ((c : Thread nD τ), .dma (wS s))
abbrev kcell (ck : Dev nD × Role) : GSem nD τ sig := ((ck.1 : Thread nD τ), csem ck.2)

theorem role_bar : role (.reg barS) = some .bar := role_csem .bar
theorem role_send (e : Fin 16) : role (.dma (sendS e)) = some (.send e) := role_csem (.send e)
theorem role_recv (e : Fin 16) : role (.dma (recvS e)) = some (.recv e) := role_csem (.recv e)

/-- What one block's transfer adds to a semaphore. -/
def N : ℕ := (gxM.access (colR 0)).dmaCredit
theorem N_pos : 0 < N := View.dmaCredit_pos _ (by decide)

/-! ## Contents -/

variable (m : (ℓ : Loc nD τ sig) → Buf (Elt F) ℓ)

/-- What the pipeline stages: device `c`'s column panel of `x`, and the two scales. -/
def xstg (c : Dev nD) : (cc0_stg0_0 : Ref sig .tc).ty.Contents (Elt F) :=
  (win0_0.blk (0 : Fin 1)).view.read (Elt F) (m ((c : Thread nD τ).loc main_arg0))
def sxstg (c : Dev nD) : (cc0_stg1_0 : Ref sig .tc).ty.Contents (Elt F) :=
  (win0_1.blk (0 : Fin 1)).view.read (Elt F) (m ((c : Thread nD τ).loc main_arg2))
def swstg (c : Dev nD) : (cc0_stg2_0 : Ref sig .tc).ty.Contents (Elt F) :=
  (win0_2.blk (0 : Fin 1)).view.read (Elt F) (m ((c : Thread nD τ).loc main_arg3))
/-- Device `c`'s `w`, left in HBM. -/
def warr (c : Dev nD) : (main_arg1 : Ref sig .tc).ty.Contents (Elt F) := m ((c : Thread nD τ).loc main_arg1)

/-- Device `c`'s panel of `x`, cast. -/
def x8Full (c : Dev nD) : (cc0_scratch0 : Ref sig .tc).ty.Contents (Elt F) :=
  (truncf .fp8e4m3 (xstg m c : FVec F S4096x256 .f32) bitsLt_fp8e4m3_f32 : FVec F S4096x256 .fp8e4m3)

/-- The gathered panel on device `c`: column block `d` is row block `c` of device `d`'s cast panel. -/
def gxFull (c : Dev nD) : (cc0_scratch1 : Ref sig .tc).ty.Contents (Elt F) := fun i =>
  x8Full m ⟨(i 1).val / 256, by have : (i 1).val < 4096 := (i 1).isLt; show _ < 16; omega⟩
    (fun a => match a with
      | 0 => ⟨256 * c.val + (i 0).val, by
          have : (i 0).val < 256 := (i 0).isLt
          have : c.val < 16 := c.isLt
          show _ < 4096; omega⟩
      | 1 => ⟨(i 1).val % 256, Nat.mod_lt _ (by decide)⟩)

/-- Device `c`'s `w`, cast. -/
def w8Full (c : Dev nD) : (cc0_scratch2 : Ref sig .tc).ty.Contents (Elt F) :=
  (truncf .fp8e5m2 (warr m c : FVec F S4096x2048 .f32) bitsLt_fp8e5m2_f32 : FVec F S4096x2048 .fp8e5m2)

/-- The index of a buffer of one element. -/
def idx0 : S1.Idx := fun a => match a with
  | 0 => ⟨0, Nat.one_pos⟩

/-- The kernel's result on device `c`. -/
def outAt (c : Dev nD) : (cc0_stg3_0 : Ref sig .tc).ty.Contents (Elt F) :=
  k0_pay28 (gxFull m c) (w8Full m c) (sxstg m c idx0) (swstg m c idx0)

/-! ## The pieces of the buffers -/

/-- Row block `e` of the cast panel on device `c`; -/
def x8Pts (c : Dev nD) (e : Fin 16) (f : Buf (Elt F) ((c : Thread nD τ).loc cc0_scratch0)) : sProp 𝕄 :=
  ((c : Thread nD τ).loc cc0_scratch0) ↦[(rowR e).set]{fullShare} f
/-- column block `e` of the gathered panel; -/
def gxPts (c : Dev nD) (e : Fin 16) (f : Buf (Elt F) ((c : Thread nD τ).loc cc0_scratch1)) : sProp 𝕄 :=
  ((c : Thread nD τ).loc cc0_scratch1) ↦[(colR e).set]{fullShare} f
/-- row block `j` of `w`, and of `w` cast; -/
def wPts (c : Dev nD) (j : Fin 8) : sProp 𝕄 :=
  ((c : Thread nD τ).loc main_arg1) ↦[(wrowR j).set]{fullShare} warr m c
def w8Pts (c : Dev nD) (j : Fin 8) (f : Buf (Elt F) ((c : Thread nD τ).loc cc0_scratch2)) : sProp 𝕄 :=
  ((c : Thread nD τ).loc cc0_scratch2) ↦[(wrowR j).set]{fullShare} f
/-- slot `s` of the double buffer. -/
def slotPts (c : Dev nD) (s : Fin 2) (f : Buf (Elt F) ((c : Thread nD τ).loc cc0_scratch3)) : sProp 𝕄 :=
  ((c : Thread nD τ).loc cc0_scratch3) ↦[(slotR s).set]{fullShare} f

instance x8Pts_storable (c : Dev nD) (e) (f) : BI.Storable (upEmb : UEmb _ 𝕄) (x8Pts (F := F) c e f) := by
  unfold x8Pts; infer_instance
instance gxPts_storable (c : Dev nD) (e) (f) : BI.Storable (upEmb : UEmb _ 𝕄) (gxPts (F := F) c e f) := by
  unfold gxPts; infer_instance

/-! ## The schedule -/

/-- One round each. A barrier cell has a duty from every other device; the send and receive cells of another device's
    number have one duty, named by that number; those of the device's own number have none. -/
def dutiesOf (c : Dev nD) : Option Role → Finset (Dev nD)
  | some .bar => Finset.univ.erase c
  | some (.send e) => if e = c then ∅ else {e}
  | some (.recv e) => if e = c then ∅ else {e}
  | none => ∅

def amountOf : Option Role → ℕ
  | some .bar => 1
  | _ => N

/-- A device's signal hands over the column block the signalled device writes; a send cell hands the row block sent
    back; a receive cell hands over the column block received. -/
def payOf (c : Dev nD) (d : Dev nD) : Option Role → sProp 𝕄
  | some .bar => iprop(∃ f, gxPts d c f)
  | some (.send e) => x8Pts c e (x8Full m c)
  | some (.recv e) => gxPts c e (gxFull m c)
  | none => iprop(emp)

def exRd : Rounds.Schedule (GSem nD τ sig) (Dev nD) 𝕄 where
  duties g r := if r = 0 ∧ g.1.2 = .tc then dutiesOf g.1.1 (role g.2) else ∅
  unitless _ := False
  amount g _ _ := amountOf (role g.2)
  payload g _ d := payOf m g.1.1 d (role g.2)
  amount_pos g _ _ _ := by
    show 0 < amountOf (role g.2)
    unfold amountOf
    split
    · exact Nat.one_pos
    · exact N_pos

instance exRd_payload_storable (g : GSem nD τ sig) (r : ℕ) (d : Dev nD) :
    BI.Storable (upEmb : UEmb _ 𝕄) ((exRd (F := F) m).payload g r d) := by
  show BI.Storable upEmb (payOf m g.1.1 d (role g.2))
  unfold payOf
  split <;> infer_instance

section Sched
variable (c : Dev nD)

theorem duties_cell (k : Role) : (exRd (F := F) m).duties (kcell (c, k)) 0 = dutiesOf c (some k) := by
  dsimp only [exRd]; rw [if_pos ⟨rfl, rfl⟩, role_csem]
theorem duties_bar : (exRd (F := F) m).duties (barCell c) 0 = Finset.univ.erase c := duties_cell m c .bar
theorem duties_send (e : Fin 16) (h : e ≠ c) : (exRd (F := F) m).duties (sendCell c e) 0 = {e} :=
  (duties_cell m c (.send e)).trans (if_neg h)
theorem duties_recv (e : Fin 16) (h : e ≠ c) : (exRd (F := F) m).duties (recvCell c e) 0 = {e} :=
  (duties_cell m c (.recv e)).trans (if_neg h)
theorem duties_later (g : GSem nD τ sig) : ∀ r, 1 ≤ r → (exRd (F := F) m).duties g r = ∅ :=
  fun r hr => by dsimp only [exRd]; rw [if_neg fun h => by omega]
theorem duties_send_own (e : Fin 16) (h : e = c) : ∀ r, 0 ≤ r → (exRd (F := F) m).duties (sendCell c e) r = ∅ := fun r _ => by
  rcases Nat.eq_zero_or_pos r with rfl | hr
  · exact (duties_cell m c (.send e)).trans (if_pos h)
  · exact duties_later m _ r hr
theorem duties_recv_own (e : Fin 16) (h : e = c) : ∀ r, 0 ≤ r → (exRd (F := F) m).duties (recvCell c e) r = ∅ := fun r _ => by
  rcases Nat.eq_zero_or_pos r with rfl | hr
  · exact (duties_cell m c (.recv e)).trans (if_pos h)
  · exact duties_later m _ r hr

theorem amount_bar (d : Dev nD) : (exRd (F := F) m).amount (barCell c) 0 d = 1 := by
  dsimp only [exRd]; rw [role_bar]; rfl
theorem amount_send (e d : Fin 16) : (exRd (F := F) m).amount (sendCell c e) 0 d = N := by
  dsimp only [exRd]; rw [role_send]; rfl
theorem amount_recv (e d : Fin 16) : (exRd (F := F) m).amount (recvCell c e) 0 d = N := by
  dsimp only [exRd]; rw [role_recv]; rfl

theorem expect_bar : (exRd (F := F) m).expect (barCell c) 0 = 15 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]; rfl
theorem expect_send (e : Fin 16) (h : e ≠ c) : (exRd (F := F) m).expect (sendCell c e) 0 = N := by
  unfold Schedule.expect Schedule.amountOf; rw [duties_send m c e h, Finset.sum_singleton, amount_send]
theorem expect_recv (e : Fin 16) (h : e ≠ c) : (exRd (F := F) m).expect (recvCell c e) 0 = N := by
  unfold Schedule.expect Schedule.amountOf; rw [duties_recv m c e h, Finset.sum_singleton, amount_recv]

theorem payload_bar (d : Dev nD) : (exRd (F := F) m).payload (barCell c) 0 d = iprop(∃ f, gxPts d c f) := by
  dsimp only [exRd]; rw [role_bar]; rfl
theorem payload_send (e d : Fin 16) : (exRd (F := F) m).payload (sendCell c e) 0 d = x8Pts c e (x8Full m c) := by
  dsimp only [exRd]; rw [role_send]; rfl
theorem payload_recv (e d : Fin 16) : (exRd (F := F) m).payload (recvCell c e) 0 d = gxPts c e (gxFull m c) := by
  dsimp only [exRd]; rw [role_recv]; rfl

theorem rest_bar : bigSep ((exRd (F := F) m).duties (barCell c) 0 \ ∅) (fun d => (exRd (F := F) m).payload (barCell c) 0 d)
    = bigSep (Finset.univ.erase c) fun d => iprop(∃ f, gxPts (F := F) d c f) := by
  rw [Finset.sdiff_empty, duties_bar]; exact bigSep_congr fun d _ => payload_bar m c d
theorem rest_send (e : Fin 16) (h : e ≠ c) :
    bigSep ((exRd (F := F) m).duties (sendCell c e) 0 \ ∅) (fun d => (exRd (F := F) m).payload (sendCell c e) 0 d) = x8Pts c e (x8Full m c) := by
  rw [Finset.sdiff_empty, duties_send m c e h, bigSep_singleton, payload_send]
theorem rest_recv (e : Fin 16) (h : e ≠ c) :
    bigSep ((exRd (F := F) m).duties (recvCell c e) 0 \ ∅) (fun d => (exRd (F := F) m).payload (recvCell c e) 0 d) = gxPts c e (gxFull m c) := by
  rw [Finset.sdiff_empty, duties_recv m c e h, bigSep_singleton, payload_recv]

end Sched

/-! ## What each device owes; the levels -/

/-- What device `c` still owes at step `n` of its signals, and at step `n` of its transfers: one unit to the barrier cell,
    a block's credit to the receive cell, of every other device from `n` on. -/
def owedB (c : Dev nD) (n : ℕ) : CellTallies nD τ sig Unit :=
  ∑ e : Dev nD, if e ≠ c ∧ n ≤ e.val then tallyAt (barCell e) () 1 else 0
def owedR (c : Dev nD) (n : ℕ) : CellTallies nD τ sig Unit :=
  ∑ e : Dev nD, if e ≠ c ∧ n ≤ e.val then tallyAt (recvCell e c) () N else 0

/-- The term of step `n` off such a sum. -/
theorem owed_step {M : Type} [AddCommMonoid M] (c e : Dev nD) (T : Dev nD → M) :
    (∑ x : Dev nD, if x ≠ c ∧ e.val ≤ x.val then T x else 0)
      = (∑ x : Dev nD, if x ≠ c ∧ e.val + 1 ≤ x.val then T x else 0) + (if e ≠ c then T e else 0) := by
  rw [← Finset.sum_erase_add _ _ (Finset.mem_univ e), ← Finset.sum_erase_add (a := e) (f := fun x => if x ≠ c ∧ e.val + 1 ≤ x.val then T x else 0) _ (Finset.mem_univ e)]
  rw [if_neg (show ¬ (e ≠ c ∧ e.val + 1 ≤ e.val) from fun h => by omega), add_zero]
  congr 1
  · refine Finset.sum_congr rfl fun x hx => ?_
    have hne : x.val ≠ e.val := fun h => (Finset.mem_erase.mp hx).1 (Fin.ext h)
    exact if_congr (and_congr_right fun _ => ⟨fun h => by omega, fun h => by omega⟩) rfl rfl
  · exact if_congr ⟨fun h => h.1, fun h => ⟨h, le_refl _⟩⟩ rfl rfl

theorem owed_end {M : Type} [AddCommMonoid M] (c : Dev nD) (T : Dev nD → M) :
    (∑ x : Dev nD, if x ≠ c ∧ 16 ≤ x.val then T x else 0) = 0 :=
  Finset.sum_eq_zero fun x _ => if_neg fun h => by have : x.val < 16 := x.isLt; omega

theorem owedB_end (c : Dev nD) : owedB c 16 = 0 := owed_end c _
theorem owedR_end (c : Dev nD) : owedR c 16 = 0 := owed_end c _

def O₀ (c : Dev nD) : CellTallies nD τ sig Unit := owedR c 0 + owedB c 0

def L (g : GSem nD τ sig) : Finset Unit := if g.1.2 = .tc then {()} else ∅
/-- Barrier cells at 1, receive cells at 2, everything else at 0. -/
def lv (g : GSem nD τ sig) (_ : Unit) : ℕ := match role g.2 with
  | some .bar => 1
  | some (.recv _) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem sum_pos {c : Dev nD} {n : ℕ} {cell : Dev nD → GSem nD τ sig} {k : ℕ} {g : GSem nD τ sig} {u : Unit}
    (h : 0 < (∑ e : Dev nD, if e ≠ c ∧ n ≤ e.val then tallyAt (cell e) () k else 0 : CellTallies nD τ sig Unit) g u) :
    ∃ e, g = cell e := by
  rw [Finset.sum_apply, Finsupp.finsetSum_apply] at h
  obtain ⟨e, _, he⟩ := Finset.exists_ne_zero_of_sum_ne_zero (Nat.pos_iff_ne_zero.mp h)
  refine ⟨e, ?_⟩
  by_contra hg
  split at he
  · rw [tallyAt_apply, if_neg (fun h => hg h.1)] at he; exact he rfl
  · exact he rfl

theorem owedR_pos {c : Dev nD} {n : ℕ} {g : GSem nD τ sig} {u : Unit} (h : 0 < owedR c n g u) : ∃ e, g = recvCell e c := sum_pos h

theorem O₀_pos {c : Dev nD} {g : GSem nD τ sig} {u : Unit} (h : 0 < O₀ c g u) :
    (∃ e, g = recvCell e c) ∨ ∃ e, g = barCell e := by
  unfold O₀ at h
  rw [Pi.add_apply, Finsupp.add_apply] at h
  rcases Nat.eq_zero_or_pos (owedR c 0 g u) with h0 | h0
  · rw [h0, Nat.zero_add] at h; exact .inr (sum_pos h)
  · exact .inl (sum_pos h0)

theorem lv_bar (c : Dev nD) : lv (barCell c) () = 1 := by unfold lv; rw [role_bar]
theorem lv_recv (c : Dev nD) (e : Fin 16) : lv (recvCell c e) () = 2 := by unfold lv; rw [role_recv]

/-- A staging semaphore, which has no role, may be waited for while all is owed; -/
theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | ⟨e, rfl⟩ <;> exact Finset.mem_singleton_self _)
      (fun p hp => by rw [Finset.mem_singleton.mp hp]; show lv _ _ ≤ 0; unfold lv; rw [hq])
      (fun g u hg => by
        cases u
        rcases O₀_pos hg with ⟨e, rfl⟩ | ⟨e, rfl⟩
        · rw [lv_recv]; decide
        · rw [lv_bar]; decide)
  · rw [MayWait_zero]; iintro -; iempintro

/-- and the barrier while only transfers are owed. -/
theorem mayWait_bar (c : Dev nD) : (levAts L lv : sProp 𝕄) ⊢ MayWait (c : Thread nD τ) (.reg barS) () (owedR c 0) :=
  MayOwe.of_cut (L := L) (lev := lv) 1 (fun p hp => by rw [Finset.mem_singleton.mp hp, L_tc]; exact Finset.mem_singleton_self _)
    (fun g u hg => by obtain ⟨e, rfl⟩ := owedR_pos hg; exact Finset.mem_singleton_self _)
    (fun p hp => by rw [Finset.mem_singleton.mp hp]; exact le_of_eq (lv_bar c))
    (fun g u hg => by cases u; obtain ⟨e, rfl⟩ := owedR_pos hg; rw [lv_recv]; decide)

end Cert.Exchange

end
-- ==== Proof.Steps.lean ====
/-
# The state of the exchange, and one lemma for each kind of effect

A family over the devices that a run of steps turns from `B` into `A` one member at a time is `upTo n A B`. Each lemma
states one effect of the body for every device number: a signal, the barrier's wait, the cast of a block of rows, a
transfer, the own block's copy, a receive wait, a send wait.
-/
module

public import proofs.«01_k».proof.Proof.Common

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Role → ℕ)

abbrev 𝒱₀ : Variants := Variants.none

/-- The weakest precondition of a program of device `c`'s core. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Families part done -/

section Fam
variable {M : Type} [URA M] {k : ℕ}

/-- The members below `n` in state `A`, the others in state `B`. -/
def upTo (n : ℕ) (A B : Fin k → sProp M) : sProp M := bigSep Finset.univ fun e => if e.val < n then A e else B e

theorem upTo_zero (A B : Fin k → sProp M) : upTo 0 A B = bigSep Finset.univ B := by
  unfold upTo; exact bigSep_congr fun e _ => if_neg (Nat.not_lt_zero _)

theorem upTo_end (A B : Fin k → sProp M) : upTo k A B = bigSep Finset.univ A := by
  unfold upTo; exact bigSep_congr fun e _ => if_pos e.isLt

/-- The next member comes out, and goes back in its new state. -/
theorem upTo_take (e : Fin k) (A B : Fin k → sProp M) : upTo e.val A B ⊢ iprop(B e ∗ (A e -∗ upTo (e.val + 1) A B)) := by
  unfold upTo
  rw [bigSep_univ_at _ e, bigSep_univ_at (fun x : Fin k => if x.val < e.val + 1 then A x else B x) e, if_neg (Nat.lt_irrefl _), if_pos (Nat.lt_succ_self _)]
  rw [bigSep_congr (Ψ := fun x : Fin k => if x.val < e.val + 1 then A x else B x) fun x hx => ?_]
  · iintro ⟨HB, HR⟩
    isplitl [HB]; · iexact HB
    iintro HA
    isplitl [HA]; · iexact HA
    iexact HR
  · have hne : x.val ≠ e.val := fun h => (Finset.mem_erase.mp hx).1 (Fin.ext h)
    exact if_congr ⟨fun h => by omega, fun h => by omega⟩ rfl rfl

/-- A family that leaves one member out is the family over the others. -/
theorem erase_if (c : Fin k) (Φ : Fin k → sProp M) :
    bigSep (Finset.univ.erase c) Φ = bigSep Finset.univ fun e => if e = c then iprop(emp) else Φ e := by
  rw [bigSep_univ_at _ c, if_pos rfl]
  rw [bigSep_congr (Ψ := fun e => if e = c then iprop(emp) else Φ e) fun x hx => (if_neg (Finset.mem_erase.mp hx).1).symm]
  exact (equiv_iff.mp emp_sep).symm

end Fam

/-! ## The records: every cell's invariant, that its round 0 is reached, and the levels -/

def recs : sProp 𝕄 :=
  iprop((bigSep Finset.univ fun ck : Dev nD × Role => iprop(cellInv ER (exRd m) (K ck) (kcell ck) ∗ reached ER (kcell ck) 0)) ∗ levAts L lv)

instance : Persistent (recs (F := F) m K) := by unfold recs; infer_instance

theorem recs_at (ck : Dev nD × Role) :
    (bigSep Finset.univ fun ck : Dev nD × Role => iprop(cellInv ER (exRd m) (K ck) (kcell ck) ∗ reached ER (kcell ck) 0) : sProp 𝕄)
      ⊢ iprop(cellInv ER (exRd m) (K ck) (kcell ck) ∗ reached ER (kcell ck) 0) :=
  bigSep_elim (Finset.mem_univ ck)

theorem recs_inv (ck : Dev nD × Role) : recs m K ⊢ cellInv ER (exRd m) (K ck) (kcell ck) := by
  unfold recs
  iintro ⟨H, -⟩
  ihave H' := (recs_at m K ck) $$ H
  icases H' with ⟨H1, -⟩
  iexact H1

theorem recs_reached (ck : Dev nD × Role) : recs m K ⊢ reached ER (kcell ck) 0 := by
  unfold recs
  iintro ⟨H, -⟩
  ihave H' := (recs_at m K ck) $$ H
  icases H' with ⟨-, H1⟩
  iexact H1

theorem recs_lev : recs m K ⊢ levAts L lv := by
  unfold recs
  iintro ⟨-, H⟩
  iexact H

/-! ## What is written where -/

section Contents
variable {b : Ref sig .tc} (r : Rect b.ty.shape)

/-- A write of `w` through a rectangle of a whole buffer leaves on it any contents that read `w` there. -/
theorem write_on (f g : b.ty.Contents (Elt F)) (w : r.shape.Idx → Elt F b.ty.elt) (h : ∀ j, g (r.emb j) = w j) :
    ∀ i ∈ r.set, ((View.whole b).slice r).write (Elt F) f w Finset.univ i = g i := by
  intro i hi
  rw [← Rect.map_emb_univ] at hi
  obtain ⟨j, -, rfl⟩ := Finset.mem_map.mp hi
  exact (View.write_emb_of_mem (v := (View.whole b).slice r) f w (Finset.mem_univ j)).trans (h j).symm

end Contents

theorem row_emb (e : Fin 16) (j : (rowR e).shape.Idx) : (((rowR e).emb j) 0).val = 256 * e.val + (j 0).val ∧ (((rowR e).emb j) 1).val = (j 1).val :=
  ⟨ValueKit.rect_emb_unit_val .., (ValueKit.rect_emb_unit_val ..).trans (Nat.zero_add _)⟩
theorem col_emb (e : Fin 16) (j : (colR e).shape.Idx) : (((colR e).emb j) 0).val = (j 0).val ∧ (((colR e).emb j) 1).val = 256 * e.val + (j 1).val :=
  ⟨(ValueKit.rect_emb_unit_val ..).trans (Nat.zero_add _), ValueKit.rect_emb_unit_val ..⟩

/-- Row block `e` of device `c`'s panel of `x`. -/
def xblk (c : Dev nD) (e : Fin 16) : Vec F S256x256 .f32 := fun j => xstg m c ((rowR e).emb j)

/-- The cast block is row block `e` of the cast panel; -/
theorem x8_blk (c : Dev nD) (e : Fin 16) (j : (rowR e).shape.Idx) : x8Full m c ((rowR e).emb j) = k0_pay1 (xblk m c e) j := by
  unfold k0_pay1
  rw [shapeCast_id, shapeCast_id]
  rfl

/-- and on device `e` it is column block `c` of the gathered panel. -/
theorem gx_blk (c e : Fin 16) (j : S256x256.Idx) : gxFull m e ((colR c).emb j) = x8Full m c ((rowR e).emb j) := by
  have h0 := col_emb c j
  have h1 := row_emb e j
  have hj : (j 1).val < 256 := (j 1).isLt
  unfold gxFull
  refine congr (congrArg (x8Full m) (Fin.ext (by show (((colR c).emb j) 1).val / 256 = c.val; rw [h0.2]; omega))) ?_
  · funext a
    match a with
    | 0 => exact Fin.ext (by show 256 * e.val + (((colR c).emb j) 0).val = _; rw [h0.1]; exact h1.1.symm)
    | 1 => exact Fin.ext (by show (((colR c).emb j) 1).val % 256 = _; rw [h0.2, h1.2]; omega)

/-! ## Owing -/

/-- Device `c` owes `O`, whatever it has waited for. -/
def owesX (c : Dev nD) (O : CellTallies nD τ sig Unit) : sProp 𝕄 := iprop(∃ W, owes (c : Thread nD τ) O W)

theorem owedB_step (c e : Dev nD) : owedB c e.val = owedB c (e.val + 1) + if e ≠ c then tallyAt (barCell e) () 1 else 0 := owed_step c e _
theorem owedR_step (c e : Dev nD) : owedR c e.val = owedR c (e.val + 1) + if e ≠ c then tallyAt (recvCell e c) () N else 0 := owed_step c e _

/-! ## The signals -/

/-- What goes with the signal to device `e`: the right to it, and the column block it hands over. -/
def sigTok (c : Dev nD) (e : Fin 16) : sProp 𝕄 :=
  if e = c then iprop(emp) else iprop(dutyTok ER (barCell e) 0 c ∗ ∃ f, gxPts (F := F) c e f)

def SigSt (c : Dev nD) (n : ℕ) : sProp 𝕄 :=
  iprop(owesX c (owedR c 0 + owedB c n) ∗ upTo n (fun _ => iprop(emp)) (sigTok (F := F) c))

theorem step_signal (c : Dev nD) (n : ℕ) (e : Fin 16) (hn : e.val = n) {p : Prop} [Decidable p] (hp : p ↔ e ≠ c) {dst : p → Dev nD} (hdst : ∀ h, dst h = e)
    {k : ℤ} (hk : k = 1) {α : Type} {Q : α → sProp 𝕄} {R : Prog (TpuEff nD τ sig (Elt F) Λ₀ .tc) α} :
    recs m K ⊢ iprop(SigSt c n -∗ (SigSt c (n + 1) -∗ wpc c R Q)
      -∗ wpc c (if h : p then .op (.semSignal (dst h : Thread nD τ) barS k) (fun _ => R) else R) Q) := by
  subst hn
  by_cases h : p
  · rw [dif_pos h, hdst h]
    have he := hp.mp h
    subst hk
    unfold SigSt owesX
    iintro #Hrecs ⟨⟨%W, HO⟩, Hf⟩ Hk
    ihave Ht := (upTo_take e _ _) $$ Hf
    icases Ht with ⟨Hs, Hback⟩
    ihave Hs' := (Entails.of_eq (show sigTok (F := F) c e = _ from if_neg he)) $$ Hs
    icases Hs' with ⟨Htok, Hpay⟩
    have hO : owedR c 0 + owedB c e.val = owedR c 0 + owedB c (e.val + 1) + tallyAt ((e : Thread nD τ), .reg barS) () 1 := by
      rw [owedB_step c e, if_pos he, add_assoc]
    iapply (Rounds.wp_signal 𝒱₀ ER (exRd m) (c : Thread nD τ) none (dst := (e : Thread nD τ)) (κ := K (e, .bar))
        (d := c) (by rw [duties_bar]; exact Finset.mem_erase.mpr ⟨he.symm, Finset.mem_univ _⟩) ((amount_bar m e c).trans (by decide)) ()
        (owedR c 0 + owedB c (e.val + 1))
        hO) $$ [HO Htok Hpay]
    · isplitr; · iapply (recs_inv m K (e, .bar)); iexact Hrecs
      isplitl [HO]; · iexact HO
      isplitl [Htok]; · iexact Htok
      isplitl [Hpay]; · rw [payload_bar]; iexact Hpay
      iapply (recs_reached m K (e, .bar)); iexact Hrecs
    iintro HO
    iapply Hk
    isplitl [HO]; · iexists W; iexact HO
    iapply Hback; iempintro
  · rw [dif_neg h]
    have he : e = c := not_not.mp fun hn => h (hp.mpr hn)
    unfold SigSt owesX
    iintro #Hrecs ⟨⟨%W, HO⟩, Hf⟩ Hk
    ihave Ht := (upTo_take e _ _) $$ Hf
    icases Ht with ⟨Hs, Hback⟩
    iapply Hk
    isplitl [HO]
    · iexists W
      rw [show owedB c e.val = owedB c (e.val + 1) from by rw [owedB_step c e, if_neg (not_not.mpr he), add_zero]]
      iexact HO
    iapply Hback; iempintro

/-! ## The barrier's wait -/

/-- The wait for the fifteen signals gives, from each other device, the column block this one writes there. -/
theorem step_barrier (c : Dev nD) {k : ℤ} (hk : k = 15) {α : Type} {Q : α → sProp 𝕄} {R : Prog (TpuEff nD τ sig (Elt F) Λ₀ .tc) α} :
    recs m K ⊢ iprop((SigSt c 16 ∗ cred (tallyAt (barCell c) () 15) ∗ atPos ER (barCell c) 0 ∅ 0)
        -∗ ((owesX c (owedR c 0) ∗ semVal (barCell c) 0 ∗ bigSep Finset.univ fun e : Fin 16 => if e = c then iprop(emp) else iprop(∃ f, gxPts (F := F) e c f))
          -∗ wpc c R Q) -∗ wpc c (.op (.semWait barS k) (fun _ => R)) Q) := by
  subst hk
  unfold SigSt owesX
  iintro #Hrecs ⟨⟨⟨%W, HO⟩, -⟩, Hc, Hat⟩ Hk
  rw [owedB_end, add_zero]
  iapply (Rounds.wp_wait_rest_token 𝒱₀ ER (exRd m) (c : Thread nD τ) none (κ := K (c, .bar))
      (wpE_semWait_eq 𝒱₀ (c : Thread nD τ) none Set.univ) (Set.mem_univ _) () (O := owedR c 0) (W := W) (R := 0) (m := 0) (T := ∅)
      (by rw [expect_bar])) $$ [HO Hc Hat]
  · isplitr; · iapply (recs_inv m K (c, .bar)); iexact Hrecs
    isplitl [Hc]; · iexact Hc
    isplitl [HO]; · iexact HO
    isplitr; · iapply (mayWait_bar c); iapply (recs_lev m K); iexact Hrecs
    iexact Hat
  iintro ⟨HO, Hat, -, Hpay⟩
  imod (Rounds.cell_close ER (exRd m) (Set.mem_univ (K (c, .bar))) (fun h => h) (R := 0 + 1) (duties_later m (barCell c))) $$ [Hat] with Hz
  · isplitr; · iapply (recs_inv m K (c, .bar)); iexact Hrecs
    iexact Hat
  ihave Hp := (Entails.of_eq ((rest_bar m c).trans (erase_if (M := 𝕄) c fun d => iprop(∃ f, gxPts (F := F) d c f)))) $$ Hpay
  iapply Hk
  isplitl [HO]; · iexists _; iexact HO
  isplitl [Hz]; · iexact Hz
  iexact Hp

/-! ## The cast of a block of rows -/

/-- The panel of `x` staged on device `c`. -/
def xPts (c : Dev nD) : sProp 𝕄 := ((c : Thread nD τ).loc cc0_stg0_0) ↦{fullShare} xstg m c

theorem step_load_x (c : Dev nD) (e : Fin 16) {off : Fin 2 → Nat} (hoff : off = ![256 * e.val, 0]) {inb} {hl}
    {α : Type} {Q : α → sProp 𝕄} {R : Vec F S256x256 .f32 → Prog (TpuEff nD τ sig (Elt F) Λ₀ .tc) α} :
    xPts m c ⊢ iprop((xPts m c -∗ wpc c (R (xblk m c e)) Q)
      -∗ wpc c (.op (.load xM (Rect.unit (s := S4096x256) off S256x256.size inb).toLoadRect hl) R) Q) := by
  subst hoff
  unfold xPts
  exact wp_load_rect 𝒱₀ (c : Thread nD τ) none Set.univ (m := xM) (r := rowR e) (Finset.subset_univ _)

/-- The rows of the cast panel not yet written. -/
def X8Raw (c : Dev nD) (n : ℕ) : sProp 𝕄 := upTo (k := 16) n (fun _ => iprop(emp)) fun e => iprop(∃ f, x8Pts (F := F) c e f)

theorem x8_written (c : Dev nD) (e : Fin 16) (f) :
    (((c : Thread nD τ).loc cc0_scratch0) ↦[(rowR e).set]{fullShare} ((x8M.access (rowR e)).write (Elt F) f (k0_pay1 (xblk m c e)) Finset.univ) : sProp 𝕄)
      = x8Pts c e (x8Full m c) :=
  pointsTo_congr (write_on (b := cc0_scratch0) (rowR e) _ _ _ (x8_blk m c e))

/-- The block is stored, after a load of what was there. -/
theorem step_put (c : Dev nD) (n : ℕ) (e : Fin 16) (hn : e.val = n) {off : Fin 2 → Nat} (hoff : off = ![256 * e.val, 0]) {inb} {hl} {hx} {hm}
    {w : Vec F S256x256 .fp8e4m3} (hw : w = k0_pay1 (xblk m c e))
    {α : Type} {Q : α → sProp 𝕄} {R : Prog (TpuEff nD τ sig (Elt F) Λ₀ .tc) α} :
    X8Raw (F := F) c n ⊢ iprop(((X8Raw (F := F) c (n + 1) ∗ x8Pts c e (x8Full m c)) -∗ wpc c R Q)
      -∗ wpc c (.op (.load x8M (Rect.unit (s := S4096x256) off S256x256.size inb).toLoadRect hl) fun _ =>
          .op (.store x8M (Rect.unit (s := S4096x256) off S256x256.size inb) w Finset.univ hx hm) fun _ => R) Q) := by
  subst hoff hw hn
  unfold X8Raw
  iintro H Hk
  ihave H' := (upTo_take e _ _) $$ H
  icases H' with ⟨⟨%f, Hx⟩, Hback⟩
  unfold x8Pts
  iapply (wp_load_rect 𝒱₀ (c : Thread nD τ) none Set.univ (m := x8M) (r := rowR e) (by rw [View.set_slice_whole])) $$ Hx
  iintro Hx
  iapply (wp_store 𝒱₀ (c : Thread nD τ) none Set.univ (m := x8M) (r := rowR e) (Mk := Finset.univ) (by rw [View.setOn_univ, View.set_slice_whole])) $$ Hx
  iintro Hx
  have hwr := x8_written m c e f
  unfold x8Pts at hwr
  ihave Hx' := (Entails.of_eq hwr) $$ Hx
  iapply Hk
  isplitl [Hback]; · iapply Hback; iempintro
  iexact Hx'

/-! ## The transfers -/

/-- What goes with the transfer to device `e` before it starts: the duties of its send and receive cells, and the
    destination; after it: the send cell's credit. The own block's row stays. -/
def sendPre (c : Dev nD) (e : Fin 16) : sProp 𝕄 :=
  if e = c then iprop(emp)
  else iprop(dutyTok ER (sendCell c e) 0 e ∗ dutyTok ER (recvCell e c) 0 c ∗ ∃ f, gxPts (F := F) e c f)
def sendPost (c : Dev nD) (e : Fin 16) : sProp 𝕄 :=
  if e = c then x8Pts c e (x8Full m c) else cred (tallyAt (sendCell c e) () N)

def SendSt (c : Dev nD) (n : ℕ) : sProp 𝕄 :=
  iprop(owesX c (owedR c n) ∗ upTo n (sendPost m c) (sendPre (F := F) c))

theorem x8_slice (c : Dev nD) (e : Fin 16) (f) (hr) :
    x8Pts (F := F) c e f = (((x8M.slice (rowR e) hr).view.loc (c : Thread nD τ)) ↦[(x8M.slice (rowR e) hr).view.set]{fullShare} f) :=
  congrArg (fun S => (((c : Thread nD τ).loc cc0_scratch0) ↦[S]{fullShare} f : sProp 𝕄)) (View.set_slice_whole cc0_scratch0 (rowR e)).symm
theorem gx_slice (c : Dev nD) (e : Fin 16) (f) (hr) :
    gxPts (F := F) c e f = (((gxM.slice (colR e) hr).view.loc (c : Thread nD τ)) ↦[(gxM.slice (colR e) hr).view.set]{fullShare} f) :=
  congrArg (fun S => (((c : Thread nD τ).loc cc0_scratch1) ↦[S]{fullShare} f : sProp 𝕄)) (View.set_slice_whole cc0_scratch1 (colR e)).symm

theorem gx_written (c e : Dev nD) (f) (w : Vec F S256x256 .fp8e4m3) (hw : w = fun j => x8Full m c ((rowR e).emb j)) :
    gxPts e c ((gxM.access (colR c)).write (Elt F) f w Finset.univ) = gxPts e c (gxFull m e) :=
  pointsTo_congr (write_on (b := cc0_scratch1) (colR c) _ _ _ (fun j => (gx_blk m c e j).trans (congrFun hw.symm j)))

theorem credit_x8 (e : Fin 16) (hr) : (x8M.slice (rowR e) hr).view.dmaCredit = N := rfl
theorem credit_gx (e : Fin 16) (hr) : (gxM.slice (colR e) hr).view.dmaCredit = N := rfl

/-- The transfer of row block `e` of device `c` into column block `c` of another device `e`. -/
theorem send_core (c e : Dev nD) (he : e ≠ c) {inb : ∀ a, (![256 * e.val, 0] : Fin 2 → Nat) a + S256x256.size a ≤ S4096x256.size a}
    {inbd : ∀ a, (![0, 256 * c.val] : Fin 2 → Nat) a + S256x256.size a ≤ S256x4096.size a}
    {hsc : (gxM.slice (Rect.unit (s := S256x4096) ![0, 256 * c.val] S256x256.size inbd) (fun _ => rfl)
      : Memref sig (e : Thread nD τ).2.kind .vmem S256x256 .fp8e4m3).view.ref.isScScratch = false}
    {hsrc : (x8M.slice (Rect.unit (s := S4096x256) ![256 * e.val, 0] S256x256.size inb) (fun _ => rfl)).view.WordExact}
    {hdw : (gxM.slice (Rect.unit (s := S256x4096) ![0, 256 * c.val] S256x256.size inbd) (fun _ => rfl)).view.WordExact}
    {hsem : DmaTarget.Typed .vmem (.dma (recvS c)) (.remote (e : Thread nD τ)
      (gxM.slice (Rect.unit (s := S256x4096) ![0, 256 * c.val] S256x256.size inbd) (fun _ => rfl)) (.dma (sendS e)) hsc)}
    {α : Type} {Q : α → sProp 𝕄} {k : PUnit → Prog (TpuEff nD τ sig (Elt F) Λ₀ .tc) α}
    (O : CellTallies nD τ sig Unit) (W : Waits sig Unit) (f : Buf (Elt F) ((e : Thread nD τ).loc cc0_scratch1)) :
    iprop(recs m K ∗ x8Pts c e (x8Full m c) ∗ gxPts e c f ∗ owes (c : Thread nD τ) (O + tallyAt (recvCell e c) () N) W
        ∗ dutyTok ER (sendCell c e) 0 e ∗ dutyTok ER (recvCell e c) 0 c)
      ⊢ iprop(((cred (tallyAt (sendCell c e) () N) ∗ owes (c : Thread nD τ) O W) -∗ wpc c (k ⟨⟩) Q)
          -∗ wpc c (.op (.enqueueDma (x8M.slice (Rect.unit (s := S4096x256) ![256 * e.val, 0] S256x256.size inb) (fun _ => rfl))
              (.remote (e : Thread nD τ) (gxM.slice (Rect.unit (s := S256x4096) ![0, 256 * c.val] S256x256.size inbd) (fun _ => rfl)) (.dma (sendS e)) hsc)
              (.dma (recvS c)) hsrc hdw hsem) k) Q) := by
  have hce : c ≠ e := he.symm
  have hsend := Rounds.wp_send_pointsTo 𝒱₀ ER (exRd m) (c : Thread nD τ) none (κ₁ := K (c, .send e)) (κ₂ := K (e, .recv c))
    (r₁ := 0) (r₂ := 0) (d₁ := e) (d₂ := c) (fd := f)
    (by rw [duties_send m c e he]; exact Finset.mem_singleton_self _) (by rw [duties_recv m e c hce]; exact Finset.mem_singleton_self _)
    () () N rfl (amount_send m c e e) (amount_recv m e c c) O rfl (W := W)
    (src := x8M.slice (rowR e) (fun _ => rfl)) (fs := x8Full m c) (hsrc := hsrc) (hdst := hdw) (hsem := hsem) (k := k) (Q := Q) (defs := defs₀ (F := F)) (Es := Set.univ) (Γ := .empty)
    (by rw [payload_send, x8_slice c e (x8Full m c) (fun _ => rfl)])
    (by rw [payload_recv, ← gx_written m c e f _ rfl, gx_slice e c _ (fun _ => rfl)]; exact BI.Entails.refl _)
  iintro ⟨#Hrecs, Hx, Hg, HO, Ht1, Ht2⟩ Hk
  ihave Hx := (Entails.of_eq (x8_slice c e (x8Full m c) (fun _ => rfl))) $$ Hx
  ihave Hg := (Entails.of_eq (gx_slice e c f (fun _ => rfl))) $$ Hg
  iapply hsend $$ [Hx Hg HO Ht1 Ht2]
  · isplitr; · iapply (recs_inv m K (c, .send e)); iexact Hrecs
    isplitr; · iapply (recs_inv m K (e, .recv c)); iexact Hrecs
    isplitl [Hx]; · iexact Hx
    isplitl [Hg]; · iexact Hg
    isplitl [HO]; · iexact HO
    isplitl [Ht1]; · iexact Ht1
    isplitr; · iapply (recs_reached m K (c, .send e)); iexact Hrecs
    isplitl [Ht2]; · iexact Ht2
    iapply (recs_reached m K (e, .recv c)); iexact Hrecs
  iexact Hk

theorem step_send (c : Dev nD) (n : ℕ) (e : Fin 16) (hn : e.val = n) {p : Prop} [Decidable p] (hp : p ↔ e ≠ c)
    {dst : p → Dev nD} (hdst : ∀ h, dst h = e)
    {off : Fin 2 → Nat} (hoff : off = ![256 * e.val, 0]) {inb : ∀ a, off a + S256x256.size a ≤ S4096x256.size a}
    {offd : Fin 2 → Nat} (hoffd : offd = ![0, 256 * c.val]) {inbd : p → ∀ a, offd a + S256x256.size a ≤ S256x4096.size a}
    {sS : p → DmaSem sig} (hsS : ∀ h, sS h = sendS e) {rS : p → DmaSem sig} (hrS : ∀ h, rS h = recvS c)
    {hsc : ∀ h, (gxM.slice (Rect.unit (s := S256x4096) offd S256x256.size (inbd h)) (fun _ => rfl)
      : Memref sig (dst h : Thread nD τ).2.kind .vmem S256x256 .fp8e4m3).view.ref.isScScratch = false}
    {hsrc : p → (x8M.slice (Rect.unit (s := S4096x256) off S256x256.size inb) (fun _ => rfl)).view.WordExact}
    {hdw : ∀ h, (gxM.slice (Rect.unit (s := S256x4096) offd S256x256.size (inbd h)) (fun _ => rfl)).view.WordExact}
    {hsem : ∀ h, DmaTarget.Typed .vmem (.dma (rS h)) (.remote (dst h : Thread nD τ)
      (gxM.slice (Rect.unit (s := S256x4096) offd S256x256.size (inbd h)) (fun _ => rfl)) (.dma (sS h)) (hsc h))}
    {α : Type} {Q : α → sProp 𝕄} {R : Prog (TpuEff nD τ sig (Elt F) Λ₀ .tc) α} :
    recs m K ⊢ iprop(SendSt m c n -∗ x8Pts c e (x8Full m c) -∗ (SendSt m c (n + 1) -∗ wpc c R Q)
      -∗ wpc c (if h : p then .op (.enqueueDma (x8M.slice (Rect.unit (s := S4096x256) off S256x256.size inb) (fun _ => rfl))
          (.remote (dst h : Thread nD τ) (gxM.slice (Rect.unit (s := S256x4096) offd S256x256.size (inbd h)) (fun _ => rfl)) (.dma (sS h)) (hsc h))
          (.dma (rS h)) (hsrc h) (hdw h) (hsem h)) (fun _ => R) else R) Q) := by
  subst hoff hoffd hn
  by_cases h : p
  · have he := hp.mp h
    obtain rfl : sS = fun _ => sendS e := funext hsS
    obtain rfl : rS = fun _ => recvS c := funext hrS
    obtain rfl : dst = fun _ => e := funext hdst
    rw [dif_pos h]
    unfold SendSt owesX
    iintro #Hrecs ⟨⟨%W, HO⟩, Hf⟩ Hx Hk
    ihave Ht := (upTo_take e _ _) $$ Hf
    icases Ht with ⟨Hs, Hback⟩
    ihave Hs' := (Entails.of_eq (show sendPre (F := F) c e = _ from if_neg he)) $$ Hs
    icases Hs' with ⟨Ht1, Ht2, %f, Hg⟩
    rw [owedR_step c e, if_pos he]
    iapply (send_core m K c e he (owedR c (e.val + 1)) W f) $$ [Hx HO Hg Ht1 Ht2]
    · isplitr; · iexact Hrecs
      isplitl [Hx]; · iexact Hx
      isplitl [Hg]; · iexact Hg
      isplitl [HO]; · iexact HO
      isplitl [Ht1]; · iexact Ht1
      iexact Ht2
    iintro ⟨Hc, HO⟩
    iapply Hk
    isplitl [HO]; · iexists W; iexact HO
    iapply Hback
    unfold sendPost
    rw [if_neg he]
    iexact Hc
  · rw [dif_neg h]
    have he : e = c := not_not.mp fun hn => h (hp.mpr hn)
    unfold SendSt owesX
    iintro #Hrecs ⟨⟨%W, HO⟩, Hf⟩ Hx Hk
    ihave Ht := (upTo_take e _ _) $$ Hf
    icases Ht with ⟨-, Hback⟩
    iapply Hk
    isplitl [HO]
    · iexists W
      rw [show owedR c e.val = owedR c (e.val + 1) from by rw [owedR_step c e, if_neg (not_not.mpr he), add_zero]]
      iexact HO
    iapply Hback
    unfold sendPost
    rw [if_pos he]
    iexact Hx

/-! ## The own block, copied by the core -/

theorem own_written (c : Dev nD) (f) (w : Vec F S256x256 .fp8e4m3) (hw : w = k0_pay18 ((x8M.access (rowR c)).read (Elt F) (x8Full m c))) :
    (((c : Thread nD τ).loc cc0_scratch1) ↦[(colR c).set]{fullShare} ((gxM.access (colR c)).write (Elt F) f w Finset.univ) : sProp 𝕄)
      = gxPts c c (gxFull m c) :=
  gx_written m c c f w (hw.trans (by unfold k0_pay18; rw [shapeCast_id]; rfl))

theorem step_own (c : Dev nD) {off : Fin 2 → Nat} (hoff : off = ![256 * c.val, 0]) {inb} {hl}
    {offd : Fin 2 → Nat} (hoffd : offd = ![0, 256 * c.val]) {inbd} {hld} {hx} {hm}
    {α : Type} {Q : α → sProp 𝕄} {R : Prog (TpuEff nD τ sig (Elt F) Λ₀ .tc) α} :
    iprop(∃ f, gxPts (F := F) c c f) ⊢ iprop(SendSt m c 16 -∗ ((SendSt m c 16 ∗ gxPts c c (gxFull m c)) -∗ wpc c R Q)
      -∗ wpc c (.op (.load x8M (Rect.unit (s := S4096x256) off S256x256.size inb).toLoadRect hl) fun v =>
          .op (.load gxM (Rect.unit (s := S256x4096) offd S256x256.size inbd).toLoadRect hld) fun _ =>
          .op (.store gxM (Rect.unit (s := S256x4096) offd S256x256.size inbd) (k0_pay18 v) Finset.univ hx hm) fun _ => R) Q) := by
  subst hoff hoffd
  have hpost : upTo 16 (sendPost m c) (sendPre (F := F) c) = iprop(x8Pts c c (x8Full m c) ∗ bigSep (Finset.univ.erase c) (sendPost m c)) := by
    rw [upTo_end (M := 𝕄) (sendPost m c) (sendPre (F := F) c), bigSep_univ_at (sendPost m c) c, show sendPost m c c = x8Pts c c (x8Full m c) from if_pos rfl]
  have hwr := fun f => own_written m c f _ rfl
  unfold SendSt
  rw [hpost]
  unfold gxPts at hwr ⊢
  unfold x8Pts
  iintro ⟨%f, Hg⟩ ⟨HO, Hx, Hf⟩ Hk
  iapply (wp_load_rect 𝒱₀ (c : Thread nD τ) none Set.univ (m := x8M) (r := rowR c) (by rw [View.set_slice_whole])) $$ Hx
  iintro Hx
  iapply (wp_load_rect 𝒱₀ (c : Thread nD τ) none Set.univ (m := gxM) (r := colR c) (by rw [View.set_slice_whole])) $$ Hg
  iintro Hg
  iapply (wp_store 𝒱₀ (c : Thread nD τ) none Set.univ (m := gxM) (r := colR c) (Mk := Finset.univ) (by rw [View.setOn_univ, View.set_slice_whole])) $$ Hg
  iintro Hg
  ihave Hg' := (Entails.of_eq (hwr f)) $$ Hg
  iapply Hk
  isplitr [Hg']
  · isplitl [HO]; · iexact HO
    isplitl [Hx]; · iexact Hx
    iexact Hf
  iexact Hg'

/-! ## The receive waits -/

/-- Column block `e` before its wait (the cell's position and the credit its transfer brings; the own block, already in
    place), and after it: the block, and the cell's counter at zero. -/
def recvPre (c : Dev nD) (e : Fin 16) : sProp 𝕄 :=
  iprop(atPos ER (recvCell c e) 0 ∅ 0 ∗ if e = c then gxPts c e (gxFull m c) else cred (tallyAt (recvCell c e) () N))
def recvDone (c : Dev nD) (e : Fin 16) : sProp 𝕄 := iprop(gxPts c e (gxFull m c) ∗ semVal (recvCell c e) 0)

def RecvSt (c : Dev nD) (n : ℕ) : sProp 𝕄 := iprop(owesX c 0 ∗ upTo n (recvDone m c) (recvPre m c))

theorem step_recv (c : Dev nD) (n : ℕ) (e : Fin 16) (hn : e.val = n) {p : Prop} [Decidable p] (hp : p ↔ e ≠ c) {q : DmaSem sig} (hq : q = recvS e)
    {sp sp' : Space} {s s' : Shape} {t t' : EltTy} {src : Memref sig .tc sp' s' t'} {dst : Memref sig .tc sp s t} (hN : dst.view.dmaCredit = N)
    {hsrc : p → src.view.WordExact} {hdst : p → dst.view.WordExact}
    {α : Type} {Q : α → sProp 𝕄} {R : Prog (TpuEff nD τ sig (Elt F) Λ₀ .tc) α} :
    recs m K ⊢ iprop(RecvSt m c n -∗ (RecvSt m c (n + 1) -∗ wpc c R Q)
      -∗ wpc c (if h : p then .op (.waitDma2 q src dst (hsrc h) (hdst h)) (fun _ => R) else R) Q) := by
  subst hq hn
  unfold RecvSt owesX
  by_cases h : p
  · have he := hp.mp h
    rw [dif_pos h]
    iintro #Hrecs ⟨⟨%W, HO⟩, Hf⟩ Hk
    ihave Ht := (upTo_take e _ _) $$ Hf
    icases Ht with ⟨Hs, Hback⟩
    have hpre : recvPre m c e = iprop(atPos ER (recvCell c e) 0 ∅ 0 ∗ cred (tallyAt (recvCell c e) () N)) := by
      unfold recvPre; rw [if_neg he]
    ihave Hs' := (Entails.of_eq hpre) $$ Hs
    icases Hs' with ⟨Hat, Hc⟩
    iapply (Rounds.wp_wait_rest_token 𝒱₀ ER (exRd m) (c : Thread nD τ) none (κ := K (c, .recv e)) (k' := N)
        (fun k => (wpE_waitDma2_eq 𝒱₀ (c : Thread nD τ) none Set.univ k).trans (by rw [hN])) (Set.mem_univ _) () (O := 0) (W := W) (R := 0) (m := 0) (T := ∅)
        (by rw [Nat.zero_add, expect_recv m c e he])) $$ [HO Hc Hat]
    · isplitr; · iapply (recs_inv m K (c, .recv e)); iexact Hrecs
      isplitl [Hc]; · iexact Hc
      isplitl [HO]; · iexact HO
      isplitr; · rw [MayWait_zero]; iempintro
      iexact Hat
    iintro ⟨HO, Hat, -, Hpay⟩
    imod (Rounds.cell_close ER (exRd m) (Set.mem_univ (K (c, .recv e))) (fun h => h) (R := 0 + 1) (duties_later m (recvCell c e))) $$ [Hat] with Hz
    · isplitr; · iapply (recs_inv m K (c, .recv e)); iexact Hrecs
      iexact Hat
    ihave Hp := (Entails.of_eq (rest_recv m c e he)) $$ Hpay
    iapply Hk
    isplitl [HO]; · iexists _; iexact HO
    iapply Hback
    unfold recvDone
    isplitl [Hp]; · iexact Hp
    iexact Hz
  · have he : e = c := not_not.mp fun hn => h (hp.mpr hn)
    rw [dif_neg h]
    iintro #Hrecs ⟨HO, Hf⟩ Hk
    ihave Ht := (upTo_take e _ _) $$ Hf
    icases Ht with ⟨Hs, Hback⟩
    have hpre : recvPre m c e = iprop(atPos ER (recvCell c e) 0 ∅ 0 ∗ gxPts c e (gxFull m c)) := by
      unfold recvPre; rw [if_pos he]
    ihave Hs' := (Entails.of_eq hpre) $$ Hs
    icases Hs' with ⟨Hat, Hp⟩
    imod (Rounds.cell_close ER (exRd m) (Set.mem_univ (K (c, .recv e))) (fun h => h) (R := 0) (duties_recv_own m c e he)) $$ [Hat] with Hz
    · isplitr; · iapply (recs_inv m K (c, .recv e)); iexact Hrecs
      iexact Hat
    iapply Hk
    isplitl [HO]; · iexact HO
    iapply Hback
    unfold recvDone
    isplitl [Hp]; · iexact Hp
    iexact Hz

/-! ## The send waits -/

/-- Row block `e` before the wait for its transfer to have left, and after it. -/
def finPre (c : Dev nD) (e : Fin 16) : sProp 𝕄 := iprop(atPos ER (sendCell c e) 0 ∅ 0 ∗ sendPost m c e)
def finDone (c : Dev nD) (e : Fin 16) : sProp 𝕄 := iprop(x8Pts c e (x8Full m c) ∗ semVal (sendCell c e) 0)

def FinSt (c : Dev nD) (n : ℕ) : sProp 𝕄 := iprop(owesX c 0 ∗ upTo n (finDone m c) (finPre m c))

theorem step_fin (c : Dev nD) (n : ℕ) (e : Fin 16) (hn : e.val = n) {p : Prop} [Decidable p] (hp : p ↔ e ≠ c) {q : DmaSem sig} (hq : q = sendS e)
    {sp sp' : Space} {s s' : Shape} {t t' : EltTy} {src : Memref sig .tc sp' s' t'} {dst : Memref sig .tc sp s t} (hN : dst.view.dmaCredit = N)
    {hsrc : p → src.view.WordExact} {hdst : p → dst.view.WordExact}
    {α : Type} {Q : α → sProp 𝕄} {R : Prog (TpuEff nD τ sig (Elt F) Λ₀ .tc) α} :
    recs m K ⊢ iprop(FinSt m c n -∗ (FinSt m c (n + 1) -∗ wpc c R Q)
      -∗ wpc c (if h : p then .op (.waitDma2 q src dst (hsrc h) (hdst h)) (fun _ => R) else R) Q) := by
  subst hq hn
  unfold FinSt owesX
  by_cases h : p
  · have he := hp.mp h
    rw [dif_pos h]
    iintro #Hrecs ⟨⟨%W, HO⟩, Hf⟩ Hk
    ihave Ht := (upTo_take e _ _) $$ Hf
    icases Ht with ⟨Hs, Hback⟩
    have hpre : finPre m c e = iprop(atPos ER (sendCell c e) 0 ∅ 0 ∗ cred (tallyAt (sendCell c e) () N)) := by
      unfold finPre sendPost; rw [if_neg he]
    ihave Hs' := (Entails.of_eq hpre) $$ Hs
    icases Hs' with ⟨Hat, Hc⟩
    iapply (Rounds.wp_wait_rest_token 𝒱₀ ER (exRd m) (c : Thread nD τ) none (κ := K (c, .send e)) (k' := N)
        (fun k => (wpE_waitDma2_eq 𝒱₀ (c : Thread nD τ) none Set.univ k).trans (by rw [hN])) (Set.mem_univ _) () (O := 0) (W := W) (R := 0) (m := 0) (T := ∅)
        (by rw [Nat.zero_add, expect_send m c e he])) $$ [HO Hc Hat]
    · isplitr; · iapply (recs_inv m K (c, .send e)); iexact Hrecs
      isplitl [Hc]; · iexact Hc
      isplitl [HO]; · iexact HO
      isplitr; · rw [MayWait_zero]; iempintro
      iexact Hat
    iintro ⟨HO, Hat, -, Hpay⟩
    imod (Rounds.cell_close ER (exRd m) (Set.mem_univ (K (c, .send e))) (fun h => h) (R := 0 + 1) (duties_later m (sendCell c e))) $$ [Hat] with Hz
    · isplitr; · iapply (recs_inv m K (c, .send e)); iexact Hrecs
      iexact Hat
    ihave Hp := (Entails.of_eq (rest_send m c e he)) $$ Hpay
    iapply Hk
    isplitl [HO]; · iexists _; iexact HO
    iapply Hback
    unfold finDone
    isplitl [Hp]; · iexact Hp
    iexact Hz
  · have he : e = c := not_not.mp fun hn => h (hp.mpr hn)
    rw [dif_neg h]
    iintro #Hrecs ⟨HO, Hf⟩ Hk
    ihave Ht := (upTo_take e _ _) $$ Hf
    icases Ht with ⟨Hs, Hback⟩
    have hpre : finPre m c e = iprop(atPos ER (sendCell c e) 0 ∅ 0 ∗ x8Pts c e (x8Full m c)) := by
      unfold finPre sendPost; rw [if_pos he]
    ihave Hs' := (Entails.of_eq hpre) $$ Hs
    icases Hs' with ⟨Hat, Hp⟩
    imod (Rounds.cell_close ER (exRd m) (Set.mem_univ (K (c, .send e))) (fun h => h) (R := 0) (duties_send_own m c e he)) $$ [Hat] with Hz
    · isplitr; · iapply (recs_inv m K (c, .send e)); iexact Hrecs
      iexact Hat
    iapply Hk
    isplitl [HO]; · iexact HO
    iapply Hback
    unfold finDone
    isplitl [Hp]; · iexact Hp
    iexact Hz

end Cert.Exchange
end
-- ==== Proof.Stream.lean ====
/-
# The stream of `w`: one lemma for each kind of effect

`w` stays in HBM; its row blocks come one at a time into the two slots of a double buffer by local copies, and each is
cast into its row block of the cast `w`. A copy under way is `fly`; the three families are the row blocks not yet copied
(`WRaw`), those back from their copies (`WBack`), and the row blocks of the cast `w` (`W8St`).
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The slot of block `j`. -/
def slotOf (j : Fin 8) : Fin 2 := ⟨j.val % 2, Nat.mod_lt _ Nat.two_pos⟩

/-- What a copy of a block adds to its semaphore. -/
def NW : ℕ := (wsM.access (slotR 0)).dmaCredit
theorem NW_pos : 0 < NW := View.dmaCredit_pos _ (by decide)

/-- Row block `j` of device `c`'s `w`. -/
def wblk (c : Dev nD) (j : Fin 8) : Vec F S512x2048 .f32 := fun i => warr m c ((wrowR j).emb i)

/-- The copy of block `j` is under way: it brings the slot, reading as the block, and the block back. -/
def fly (c : Dev nD) (j : Fin 8) : sProp 𝕄 :=
  iprop(∃ f, ⌜shapeCast S512x2048 ((wsM.access (slotR (slotOf j))).read (Elt F) f : Vec F S1x512x2048 .f32) shapeCasts_S1x512x2048_S512x2048 = wblk m c j⌝
    ∗ Transfers.Flight EC (c : Thread nD τ) (.dma (wS (slotOf j))) () NW iprop(slotPts c (slotOf j) f ∗ wPts m c j))

/-- A slot with no copy under way. -/
def free (c : Dev nD) (s : Fin 2) : sProp 𝕄 := iprop((∃ f, slotPts (F := F) c s f) ∗ semVal (wCell c s) 0)

def WRaw (c : Dev nD) (n : ℕ) : sProp 𝕄 := upTo n (fun _ => iprop(emp)) (wPts m c)
def WBack (c : Dev nD) (n : ℕ) : sProp 𝕄 := upTo n (wPts m c) (fun _ => iprop(emp))
def W8St (c : Dev nD) (n : ℕ) : sProp 𝕄 := upTo n (fun j => w8Pts c j (w8Full m c)) (fun j => iprop(∃ f, w8Pts (F := F) c j f))

/-- Block `j` as the source of its copy; -/
theorem w_slice (c : Dev nD) (j : Fin 8) (hr) :
    wPts m c j = (((wM.slice (wrowR j) hr).view.loc (c : Thread nD τ)) ↦[(wM.slice (wrowR j) hr).view.set]{fullShare} warr m c) :=
  congrArg (fun S => (((c : Thread nD τ).loc main_arg1) ↦[S]{fullShare} warr m c : sProp 𝕄)) (View.set_slice_whole main_arg1 (wrowR j)).symm

/-- and the elements of a slot, named as the copy's destination. -/
theorem slot_set (s : Fin 2) (hr) : ((wsM.slice (slotR s) hr).squeeze S512x2048 squeezes_S1x512x2048_S512x2048).view.set = (slotR s).set :=
  (View.set_reshape _ _).trans (View.set_slice_whole cc0_scratch3 (slotR s))

/-- A copy of block `j` starts. -/
theorem step_start (c : Dev nD) (n : ℕ) (j : Fin 8) (hn : j.val = n) (sl : Fin 2) (hs : sl = slotOf j) {off : Fin 2 → Nat} (hoff : off = ![512 * j.val, 0]) {inb : ∀ a, off a + S512x2048.size a ≤ S4096x2048.size a}
    {offs : Fin 3 → Nat} (hoffs : offs = ![(slotOf j).val, 0, 0]) {inbs : ∀ a, offs a + S1x512x2048.size a ≤ S2x512x2048.size a}
    {q : DmaSem sig} (hq : q = wS (slotOf j))
    {hsrc : (wM.slice (Rect.unit (s := S4096x2048) off S512x2048.size inb) (fun _ => rfl)).view.WordExact}
    {hdst : ((wsM.slice (Rect.unit (s := S2x512x2048) offs S1x512x2048.size inbs) (fun _ => rfl)).squeeze S512x2048 squeezes_S1x512x2048_S512x2048).view.WordExact}
    {hsem : DmaTarget.Typed (nD := nD) (τ := τ) (p := .tc) .hbm (.dma q) (.here ((wsM.slice (Rect.unit (s := S2x512x2048) offs S1x512x2048.size inbs) (fun _ => rfl)).squeeze S512x2048 squeezes_S1x512x2048_S512x2048))}
    {α : Type} {Q : α → sProp 𝕄} {R : Prog (TpuEff nD τ sig (Elt F) Λ₀ .tc) α} :
    free (F := F) c sl ⊢ iprop(WRaw m c n -∗ ((fly m c j ∗ WRaw m c (n + 1)) -∗ wpc c R Q)
      -∗ wpc c (.op (.enqueueDma (wM.slice (Rect.unit (s := S4096x2048) off S512x2048.size inb) (fun _ => rfl))
          (.here ((wsM.slice (Rect.unit (s := S2x512x2048) offs S1x512x2048.size inbs) (fun _ => rfl)).squeeze S512x2048 squeezes_S1x512x2048_S512x2048))
          (.dma q) hsrc hdst hsem) (fun _ => R)) Q) := by
  subst hs
  subst hoff hoffs hq hn
  unfold free WRaw
  iintro ⟨⟨%f, Hs⟩, Hz⟩ Hf Hk
  ihave Ht := (upTo_take j _ _) $$ Hf
  icases Ht with ⟨Hw, Hback⟩
  ihave Hw := (Entails.of_eq (w_slice m c j (fun _ => rfl))) $$ Hw
  unfold slotPts
  iapply (Transfers.wp_dmaLocal EC 𝒱₀ (c : Thread nD τ) none (src := wM.slice (wrowR j) (fun _ => rfl)) (via := .same)
      (dst := (wsM.slice (slotR (slotOf j)) (fun _ => rfl)).squeeze S512x2048 squeezes_S1x512x2048_S512x2048)
      (Sd := (slotR (slotOf j)).set) (fd := f) () NW rfl NW_pos (by rw [slot_set])) $$ [Hs Hw Hz]
  · isplitl [Hw]; · iexact Hw
    isplitl [Hs]; · iexact Hs
    iexact Hz
  iintro HF
  iapply Hk
  isplitl [HF]
  · unfold fly
    iexists (((wsM.slice (slotR (slotOf j)) (fun _ => rfl)).squeeze S512x2048 squeezes_S1x512x2048_S512x2048).view.write (Elt F) f (wblk m c j) Finset.univ)
    isplitr
    · ipureintro
      refine (Memref.read_squeeze_slice wsM (slotR (slotOf j)) (fun _ => rfl) squeezes_S1x512x2048_S512x2048 shapeCasts_S1x512x2048_S512x2048 _).symm.trans ?_
      exact View.read_write_univ _ _
    · rw [w_slice m c j (fun _ => rfl)]
      iexact HF
  iapply Hback; iempintro

/-- The wait for block `j`'s copy and the load of its slot: the value loaded is the block, and the slot is free again. -/
theorem step_fetch (c : Dev nD) (n : ℕ) (j : Fin 8) (hn : j.val = n) (sl : Fin 2) (hs : sl = slotOf j)
    {offs : Fin 3 → Nat} (hoffs : offs = ![(slotOf j).val, 0, 0]) {inbs : ∀ a, offs a + S1x512x2048.size a ≤ S2x512x2048.size a}
    {q : DmaSem sig} (hq : q = wS (slotOf j)) {hl}
    {sp sp' : Space} {s s' : Shape} {t t' : EltTy} {src : Memref sig .tc sp' s' t'} {dst : Memref sig .tc sp s t} (hN : dst.view.dmaCredit = NW)
    {hsrc : src.view.WordExact} {hdst : dst.view.WordExact}
    {α : Type} {Q : α → sProp 𝕄} {R : Vec F S1x512x2048 .f32 → Prog (TpuEff nD τ sig (Elt F) Λ₀ .tc) α} :
    fly m c j ⊢ iprop(owesX (F := F) c 0 -∗ WBack m c n -∗ (∀ v, ⌜shapeCast S512x2048 v shapeCasts_S1x512x2048_S512x2048 = wblk m c j⌝
        -∗ (free (F := F) c sl ∗ owesX (F := F) c 0 ∗ WBack m c (n + 1)) -∗ wpc c (R v) Q)
      -∗ wpc c (.op (.waitDma2 q src dst hsrc hdst) fun _ =>
          .op (.load wsM (Rect.unit (s := S2x512x2048) offs S1x512x2048.size inbs).toLoadRect hl) R) Q) := by
  subst hs
  subst hoffs hq hn
  unfold fly owesX WBack
  iintro ⟨%f, %hf, HF⟩ ⟨%W, HO⟩ Hb Hk
  ihave Ht := (upTo_take j _ _) $$ Hb
  icases Ht with ⟨-, Hback⟩
  iapply (Transfers.wp_waitLocal EC 𝒱₀ (c : Thread nD τ) none () hN) $$ [HF HO]
  · isplitl [HF]; · iexact HF
    iexact HO
  iintro ⟨⟨Hs, Hw⟩, Hz, HO⟩
  unfold slotPts
  iapply (wp_load_rect 𝒱₀ (c : Thread nD τ) none Set.univ (m := wsM) (r := slotR (slotOf j)) (by rw [View.set_slice_whole])) $$ Hs
  iintro Hs
  iapply Hk
  · ipureintro; exact hf
  isplitl [Hs Hz]
  · unfold free slotPts
    isplitl [Hs]; · iexists f; iexact Hs
    iexact Hz
  isplitl [HO]; · iexists _; iexact HO
  iapply Hback; iexact Hw

/-- The cast block is row block `j` of the cast `w`. -/
theorem w8_written (c : Dev nD) (j : Fin 8) (f) (w : Vec F S512x2048 .fp8e5m2) (hw : w = truncf .fp8e5m2 (wblk m c j : FVec F S512x2048 .f32) bitsLt_fp8e5m2_f32) :
    (((c : Thread nD τ).loc cc0_scratch2) ↦[(wrowR j).set]{fullShare} ((w8M.access (wrowR j)).write (Elt F) f w Finset.univ) : sProp 𝕄)
      = w8Pts c j (w8Full m c) :=
  pointsTo_congr (write_on (b := cc0_scratch2) (wrowR j) _ _ _ (fun i => by rw [hw]; rfl))

theorem pay_w (c : Dev nD) (j : Fin 8) (v : Vec F S1x512x2048 .f32) (hv : shapeCast S512x2048 v shapeCasts_S1x512x2048_S512x2048 = wblk m c j) :
    k0_pay19 v = truncf .fp8e5m2 (wblk m c j : FVec F S512x2048 .f32) bitsLt_fp8e5m2_f32 := by
  refine (shapeCast_id (truncf .fp8e5m2 (shapeCast S512x2048 v shapeCasts_S1x512x2048_S512x2048 : FVec F S512x2048 .f32) bitsLt_fp8e5m2_f32) _).trans ?_
  rw [hv]

/-- The cast block `j` is stored, after a load of what was there. -/
theorem step_w8 (c : Dev nD) (n : ℕ) (j : Fin 8) (hn : j.val = n) {off : Fin 2 → Nat} (hoff : off = ![512 * j.val, 0]) {inb} {hl} {hx} {hm}
    {w : Vec F S512x2048 .fp8e5m2} (hw : w = truncf .fp8e5m2 (wblk m c j : FVec F S512x2048 .f32) bitsLt_fp8e5m2_f32)
    {α : Type} {Q : α → sProp 𝕄} {R : Prog (TpuEff nD τ sig (Elt F) Λ₀ .tc) α} :
    W8St m c n ⊢ iprop((W8St m c (n + 1) -∗ wpc c R Q)
      -∗ wpc c (.op (.load w8M (Rect.unit (s := S4096x2048) off S512x2048.size inb).toLoadRect hl) fun _ =>
          .op (.store w8M (Rect.unit (s := S4096x2048) off S512x2048.size inb) w Finset.univ hx hm) fun _ => R) Q) := by
  subst hoff hn
  have hwr := fun f => w8_written m c j f w hw
  unfold W8St
  iintro H Hk
  ihave H' := (upTo_take j _ _) $$ H
  icases H' with ⟨⟨%f, Hx⟩, Hback⟩
  unfold w8Pts
  unfold w8Pts at hwr
  iapply (wp_load_rect 𝒱₀ (c : Thread nD τ) none Set.univ (m := w8M) (r := wrowR j) (by rw [View.set_slice_whole])) $$ Hx
  iintro Hx
  iapply (wp_store 𝒱₀ (c : Thread nD τ) none Set.univ (m := w8M) (r := wrowR j) (Mk := Finset.univ) (by rw [View.setOn_univ, View.set_slice_whole])) $$ Hx
  iintro Hx
  ihave Hx' := (Entails.of_eq (hwr f)) $$ Hx
  iapply Hk
  iapply Hback
  iexact Hx'

end Cert.Exchange

end
-- ==== Proof.Parts.lean ====
/-
The parts of the kernel's body, in the order the body runs them: what each takes and what it leaves. Each is a run of the
steps of `Steps` and `Stream`, at the device `c` that runs the body.
-/
module

public import proofs.«01_k».proof.Proof.Stream

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Role → ℕ)

/-- The device's position on the mesh, as the program computes it. -/
abbrev v2Of (c : Dev nD) : BitVec 32 := Scalar.remsi (Scalar.divsi (Dev.word c) 1#32) 16#32

/-- The program's test "device `e` is not this one". -/
theorem ne_word : ∀ c e : Fin 16,
    Scalar.cmpi .ne (Scalar.extui (Scalar.cmpi .ne (v2Of c) (BitVec.ofNat 32 e.val) : BitVec 1) : BitVec 32) 0#32 = 1#1 ↔ e ≠ c := by
  decide +kernel

theorem step_device {α : Type} (c : Dev nD) (k : Dev nD → Prog (TpuEff nD τ sig (Elt F) Λ₀ .tc) α) (Q : α → sProp 𝕄) :
    wpc c (.op .deviceId k) Q = wpc c (k c) Q := wp_deviceId ..

theorem step_ret {α : Type} {c : Dev nD} {a : α} {Q : α → sProp 𝕄} : Q a ⊢ wpc c (.ret a) Q := by
  unfold wpc; rw [wp_ret]
  iintro H
  imodintro
  iexact H

/-- The receive semaphore a transfer names, at the offset the program computes. -/
theorem recv_at (c : Dev nD) {off : Fin 1 → Nat} (h : off = ![c.val]) {inb} :
    ((cc0_scratch5.slice (Rect.unit (s := S16) off S1.size inb)).squeeze S_ squeezes_S1_S_).sem = recvS c := by
  subst h; rfl

/-! What the descriptors the waits name stand for, at any offset. -/

theorem credit_ws {offs : Fin 3 → Nat} {inbs : ∀ a, offs a + S1x512x2048.size a ≤ S2x512x2048.size a} {hr} :
    ((wsM.slice (Rect.unit (s := S2x512x2048) offs S1x512x2048.size inbs) hr).squeeze S512x2048 squeezes_S1x512x2048_S512x2048).view.dmaCredit = NW := rfl
theorem credit_cols {off : Fin 2 → Nat} {inb : ∀ a, off a + S256x256.size a ≤ S256x4096.size a} {hr} :
    (gxM.slice (Rect.unit (s := S256x4096) off S256x256.size inb) hr).view.dmaCredit = N := rfl
theorem credit_rows {off : Fin 2 → Nat} {inb : ∀ a, off a + S256x256.size a ≤ S4096x256.size a} {hr} :
    (x8M.slice (Rect.unit (s := S4096x256) off S256x256.size inb) hr).view.dmaCredit = N := rfl

/-- A part of the body, and then the rest. -/
theorem step_bind {α β : Type} {c : Dev nD} {p : Prog (TpuEff nD τ sig (Elt F) Λ₀ .tc) α} {k : α → Prog (TpuEff nD τ sig (Elt F) Λ₀ .tc) β} {Q : β → sProp 𝕄} :
    wpc c p (fun a => wpc c (k a) Q) ⊢ wpc c (p >>= k) Q := Entails.of_eq (wp_bind ..).symm

/-- Signals to devices 0 to 7. -/
theorem part1_spec (c : Dev nD) {Ψ : _ → sProp 𝕄} :
    iprop(recs m K ∗ SigSt c 0)
      ⊢ iprop(((SigSt c 8) -∗ Ψ ⟨c, v2Of c, barA⟩)
        -∗ wpc c (k0_part1 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6) Ψ) := by
  rw [k0_part1_eq_skeleton]; unfold k0_part1_skel
  simp -zeta only [semSignalWord, semWaitWord, Prog.lift, Prog.bind_op, Prog.bind_ret, Prog.pure_eq_ret]
  rw [step_device]
  iintro ⟨#Hr, H⟩ Hk
  iapply (step_signal m K c 0 0 rfl (ne_word c 0) (fun _ => Fin.ext k0_dev1_eq) rfl) $$ Hr H; iintro H
  iapply (step_signal m K c 1 1 rfl (ne_word c 1) (fun _ => Fin.ext k0_dev2_eq) rfl) $$ Hr H; iintro H
  iapply (step_signal m K c 2 2 rfl (ne_word c 2) (fun _ => Fin.ext k0_dev3_eq) rfl) $$ Hr H; iintro H
  iapply (step_signal m K c 3 3 rfl (ne_word c 3) (fun _ => Fin.ext k0_dev4_eq) rfl) $$ Hr H; iintro H
  iapply (step_signal m K c 4 4 rfl (ne_word c 4) (fun _ => Fin.ext k0_dev5_eq) rfl) $$ Hr H; iintro H
  iapply (step_signal m K c 5 5 rfl (ne_word c 5) (fun _ => Fin.ext k0_dev6_eq) rfl) $$ Hr H; iintro H
  iapply (step_signal m K c 6 6 rfl (ne_word c 6) (fun _ => Fin.ext k0_dev7_eq) rfl) $$ Hr H; iintro H
  iapply (step_signal m K c 7 7 rfl (ne_word c 7) (fun _ => Fin.ext k0_dev8_eq) rfl) $$ Hr H; iintro H
  iapply (step_ret (a := ⟨c, v2Of c, barA⟩))
  iapply Hk
  iexact H

/-- Signals to devices 8 to 15, the wait for the barrier, and the start of the copy of `w`'s first block. -/
theorem part2_spec (c : Dev nD) {Ψ : _ → sProp 𝕄} :
    iprop(recs m K ∗ SigSt c 8 ∗ cred (tallyAt (barCell c) () 15) ∗ atPos ER (barCell c) 0 ∅ 0 ∗ free c 0 ∗ WRaw m c 0)
      ⊢ iprop(((owesX c (owedR c 0) ∗ semVal (barCell c) 0 ∗ (bigSep Finset.univ fun e : Fin 16 => if e = c then iprop(emp) else iprop(∃ f, gxPts (F := F) e c f)) ∗ fly m c 0 ∗ WRaw m c 1) -∗ Ψ ⟨⟩)
        -∗ wpc c (k0_part2 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6 c (v2Of c) barA) Ψ) := by
  rw [k0_part2_eq_skeleton]; unfold k0_part2_skel
  simp -zeta only [semSignalWord, semWaitWord, Prog.lift, Prog.bind_op, Prog.bind_ret, Prog.pure_eq_ret]
  iintro ⟨#Hr, H, Hc, Hat, Hfr0, Hw⟩ Hk
  iapply (step_signal m K c 8 8 rfl (ne_word c 8) (fun _ => Fin.ext k0_dev9_eq) rfl) $$ Hr H; iintro H
  iapply (step_signal m K c 9 9 rfl (ne_word c 9) (fun _ => Fin.ext k0_dev10_eq) rfl) $$ Hr H; iintro H
  iapply (step_signal m K c 10 10 rfl (ne_word c 10) (fun _ => Fin.ext k0_dev11_eq) rfl) $$ Hr H; iintro H
  iapply (step_signal m K c 11 11 rfl (ne_word c 11) (fun _ => Fin.ext k0_dev12_eq) rfl) $$ Hr H; iintro H
  iapply (step_signal m K c 12 12 rfl (ne_word c 12) (fun _ => Fin.ext k0_dev13_eq) rfl) $$ Hr H; iintro H
  iapply (step_signal m K c 13 13 rfl (ne_word c 13) (fun _ => Fin.ext k0_dev14_eq) rfl) $$ Hr H; iintro H
  iapply (step_signal m K c 14 14 rfl (ne_word c 14) (fun _ => Fin.ext k0_dev15_eq) rfl) $$ Hr H; iintro H
  iapply (step_signal m K c 15 15 rfl (ne_word c 15) (fun _ => Fin.ext k0_dev16_eq) rfl) $$ Hr H; iintro H
  iapply (step_barrier m K c rfl) $$ Hr [H Hc Hat]
  · isplitl [H]; · iexact H
    isplitl [Hc]; · iexact Hc
    iexact Hat
  iintro ⟨HO, Hz, Hg⟩
  iapply (step_start m c 0 0 rfl 0 rfl rfl rfl rfl) $$ Hfr0 Hw; iintro ⟨Hfl0, Hw⟩
  iapply (step_ret (a := ⟨⟩))
  iapply Hk
  isplitl [HO]; · iexact HO
  isplitl [Hz]; · iexact Hz
  isplitl [Hg]; · iexact Hg
  isplitl [Hfl0]; · iexact Hfl0
  iexact Hw

/-- Blocks 0 to 2 cast and sent, block 3 cast. -/
theorem part3_spec (c : Dev nD) {Ψ : _ → sProp 𝕄} :
    iprop(recs m K ∗ xPts m c ∗ X8Raw c 0 ∗ SendSt m c 0)
      ⊢ iprop(((xPts m c ∗ X8Raw c 4 ∗ SendSt m c 3 ∗ x8Pts c 3 (x8Full m c)) -∗ Ψ ⟨⟩)
        -∗ wpc c (k0_part3 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6 c (v2Of c)) Ψ) := by
  rw [k0_part3_eq_skeleton]; unfold k0_part3_skel
  simp -zeta only [semSignalWord, semWaitWord, Prog.lift, Prog.bind_op, Prog.bind_ret, Prog.pure_eq_ret]
  iintro ⟨#Hr, Hx, Hraw, Hs⟩ Hk
  iapply (step_load_x m c 0 rfl) $$ Hx; iintro Hx
  iapply (step_put m c 0 0 rfl rfl rfl) $$ Hraw; iintro ⟨Hraw, Hp⟩
  iapply (step_send m K c 0 0 rfl (ne_word c 0) (fun _ => Fin.ext k0_dev17_eq) rfl (k0_off2_eq c) (fun _ => rfl) (fun _ => recv_at c (k0_off1_eq c))) $$ Hr Hs Hp; iintro Hs
  iapply (step_load_x m c 1 rfl) $$ Hx; iintro Hx
  iapply (step_put m c 1 1 rfl rfl rfl) $$ Hraw; iintro ⟨Hraw, Hp⟩
  iapply (step_send m K c 1 1 rfl (ne_word c 1) (fun _ => Fin.ext k0_dev18_eq) rfl (k0_off4_eq c) (fun _ => rfl) (fun _ => recv_at c (k0_off3_eq c))) $$ Hr Hs Hp; iintro Hs
  iapply (step_load_x m c 2 rfl) $$ Hx; iintro Hx
  iapply (step_put m c 2 2 rfl rfl rfl) $$ Hraw; iintro ⟨Hraw, Hp⟩
  iapply (step_send m K c 2 2 rfl (ne_word c 2) (fun _ => Fin.ext k0_dev19_eq) rfl (k0_off6_eq c) (fun _ => rfl) (fun _ => recv_at c (k0_off5_eq c))) $$ Hr Hs Hp; iintro Hs
  iapply (step_load_x m c 3 rfl) $$ Hx; iintro Hx
  iapply (step_put m c 3 3 rfl rfl rfl) $$ Hraw; iintro ⟨Hraw, Hp⟩
  iapply (step_ret (a := ⟨⟩))
  iapply Hk
  isplitl [Hx]; · iexact Hx
  isplitl [Hraw]; · iexact Hraw
  isplitl [Hs]; · iexact Hs
  iexact Hp

/-- Blocks 3 to 6 sent, block 7 read. -/
theorem part4_spec (c : Dev nD) {Ψ : _ → sProp 𝕄} :
    iprop(recs m K ∗ xPts m c ∗ X8Raw c 4 ∗ SendSt m c 3 ∗ x8Pts c 3 (x8Full m c))
      ⊢ iprop(((xPts m c ∗ X8Raw c 7 ∗ SendSt m c 7) -∗ Ψ (xblk m c 7))
        -∗ wpc c (k0_part4 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6 c (v2Of c)) Ψ) := by
  rw [k0_part4_eq_skeleton]; unfold k0_part4_skel
  simp -zeta only [semSignalWord, semWaitWord, Prog.lift, Prog.bind_op, Prog.bind_ret, Prog.pure_eq_ret]
  iintro ⟨#Hr, Hx, Hraw, Hs, Hp⟩ Hk
  iapply (step_send m K c 3 3 rfl (ne_word c 3) (fun _ => Fin.ext k0_dev20_eq) rfl (k0_off8_eq c) (fun _ => rfl) (fun _ => recv_at c (k0_off7_eq c))) $$ Hr Hs Hp; iintro Hs
  iapply (step_load_x m c 4 rfl) $$ Hx; iintro Hx
  iapply (step_put m c 4 4 rfl rfl rfl) $$ Hraw; iintro ⟨Hraw, Hp⟩
  iapply (step_send m K c 4 4 rfl (ne_word c 4) (fun _ => Fin.ext k0_dev21_eq) rfl (k0_off10_eq c) (fun _ => rfl) (fun _ => recv_at c (k0_off9_eq c))) $$ Hr Hs Hp; iintro Hs
  iapply (step_load_x m c 5 rfl) $$ Hx; iintro Hx
  iapply (step_put m c 5 5 rfl rfl rfl) $$ Hraw; iintro ⟨Hraw, Hp⟩
  iapply (step_send m K c 5 5 rfl (ne_word c 5) (fun _ => Fin.ext k0_dev22_eq) rfl (k0_off12_eq c) (fun _ => rfl) (fun _ => recv_at c (k0_off11_eq c))) $$ Hr Hs Hp; iintro Hs
  iapply (step_load_x m c 6 rfl) $$ Hx; iintro Hx
  iapply (step_put m c 6 6 rfl rfl rfl) $$ Hraw; iintro ⟨Hraw, Hp⟩
  iapply (step_send m K c 6 6 rfl (ne_word c 6) (fun _ => Fin.ext k0_dev23_eq) rfl (k0_off14_eq c) (fun _ => rfl) (fun _ => recv_at c (k0_off13_eq c))) $$ Hr Hs Hp; iintro Hs
  iapply (step_load_x m c 7 rfl) $$ Hx; iintro Hx
  iapply (step_ret (a := (xblk m c 7)))
  iapply Hk
  isplitl [Hx]; · iexact Hx
  isplitl [Hraw]; · iexact Hraw
  iexact Hs

end Cert.Exchange

end
-- ==== Proof.PartsSend.lean ====
/-
The parts of the kernel's body, continued: blocks 7 to 15 cast and sent, and the device's own block put in place.
-/
module

public import proofs.«01_k».proof.Proof.Parts

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Role → ℕ)

/-- Blocks 7 to 9 sent, block 10 cast. -/
theorem part5_spec (c : Dev nD) {Ψ : _ → sProp 𝕄} :
    iprop(recs m K ∗ xPts m c ∗ X8Raw c 7 ∗ SendSt m c 7)
      ⊢ iprop(((xPts m c ∗ X8Raw c 11 ∗ SendSt m c 10 ∗ x8Pts c 10 (x8Full m c)) -∗ Ψ 10#32)
        -∗ wpc c (k0_part5 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6 c (v2Of c) (xblk m c 7)) Ψ) := by
  rw [k0_part5_eq_skeleton]; unfold k0_part5_skel
  simp -zeta only [semSignalWord, semWaitWord, Prog.lift, Prog.bind_op, Prog.bind_ret, Prog.pure_eq_ret]
  iintro ⟨#Hr, Hx, Hraw, Hs⟩ Hk
  iapply (step_put m c 7 7 rfl rfl rfl) $$ Hraw; iintro ⟨Hraw, Hp⟩
  iapply (step_send m K c 7 7 rfl (ne_word c 7) (fun _ => Fin.ext k0_dev24_eq) rfl (k0_off16_eq c) (fun _ => rfl) (fun _ => recv_at c (k0_off15_eq c))) $$ Hr Hs Hp; iintro Hs
  iapply (step_load_x m c 8 rfl) $$ Hx; iintro Hx
  iapply (step_put m c 8 8 rfl rfl rfl) $$ Hraw; iintro ⟨Hraw, Hp⟩
  iapply (step_send m K c 8 8 rfl (ne_word c 8) (fun _ => Fin.ext k0_dev25_eq) rfl (k0_off18_eq c) (fun _ => rfl) (fun _ => recv_at c (k0_off17_eq c))) $$ Hr Hs Hp; iintro Hs
  iapply (step_load_x m c 9 rfl) $$ Hx; iintro Hx
  iapply (step_put m c 9 9 rfl rfl rfl) $$ Hraw; iintro ⟨Hraw, Hp⟩
  iapply (step_send m K c 9 9 rfl (ne_word c 9) (fun _ => Fin.ext k0_dev26_eq) rfl (k0_off20_eq c) (fun _ => rfl) (fun _ => recv_at c (k0_off19_eq c))) $$ Hr Hs Hp; iintro Hs
  iapply (step_load_x m c 10 rfl) $$ Hx; iintro Hx
  iapply (step_put m c 10 10 rfl rfl rfl) $$ Hraw; iintro ⟨Hraw, Hp⟩
  iapply (step_ret (a := 10#32))
  iapply Hk
  isplitl [Hx]; · iexact Hx
  isplitl [Hraw]; · iexact Hraw
  isplitl [Hs]; · iexact Hs
  iexact Hp

/-- Blocks 10 to 13 sent, block 14 read. -/
theorem part6_spec (c : Dev nD) {Ψ : _ → sProp 𝕄} :
    iprop(recs m K ∗ xPts m c ∗ X8Raw c 11 ∗ SendSt m c 10 ∗ x8Pts c 10 (x8Full m c))
      ⊢ iprop(((xPts m c ∗ X8Raw c 14 ∗ SendSt m c 14) -∗ Ψ (k0_pay15 (xblk m c 14)))
        -∗ wpc c (k0_part6 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6 c (v2Of c) 10#32) Ψ) := by
  rw [k0_part6_eq_skeleton]; unfold k0_part6_skel
  simp -zeta only [semSignalWord, semWaitWord, Prog.lift, Prog.bind_op, Prog.bind_ret, Prog.pure_eq_ret]
  iintro ⟨#Hr, Hx, Hraw, Hs, Hp⟩ Hk
  iapply (step_send m K c 10 10 rfl (ne_word c 10) (fun _ => Fin.ext k0_dev27_eq) rfl (k0_off22_eq c) (fun _ => rfl) (fun _ => recv_at c (k0_off21_eq c))) $$ Hr Hs Hp; iintro Hs
  iapply (step_load_x m c 11 rfl) $$ Hx; iintro Hx
  iapply (step_put m c 11 11 rfl rfl rfl) $$ Hraw; iintro ⟨Hraw, Hp⟩
  iapply (step_send m K c 11 11 rfl (ne_word c 11) (fun _ => Fin.ext k0_dev28_eq) rfl (k0_off24_eq c) (fun _ => rfl) (fun _ => recv_at c (k0_off23_eq c))) $$ Hr Hs Hp; iintro Hs
  iapply (step_load_x m c 12 rfl) $$ Hx; iintro Hx
  iapply (step_put m c 12 12 rfl rfl rfl) $$ Hraw; iintro ⟨Hraw, Hp⟩
  iapply (step_send m K c 12 12 rfl (ne_word c 12) (fun _ => Fin.ext k0_dev29_eq) rfl (k0_off26_eq c) (fun _ => rfl) (fun _ => recv_at c (k0_off25_eq c))) $$ Hr Hs Hp; iintro Hs
  iapply (step_load_x m c 13 rfl) $$ Hx; iintro Hx
  iapply (step_put m c 13 13 rfl rfl rfl) $$ Hraw; iintro ⟨Hraw, Hp⟩
  iapply (step_send m K c 13 13 rfl (ne_word c 13) (fun _ => Fin.ext k0_dev30_eq) rfl (k0_off28_eq c) (fun _ => rfl) (fun _ => recv_at c (k0_off27_eq c))) $$ Hr Hs Hp; iintro Hs
  iapply (step_load_x m c 14 rfl) $$ Hx; iintro Hx
  iapply (step_ret (a := (k0_pay15 (xblk m c 14))))
  iapply Hk
  isplitl [Hx]; · iexact Hx
  isplitl [Hraw]; · iexact Hraw
  iexact Hs

/-- Blocks 14 and 15 sent, the own block in place, the copy of `w`'s second block started. -/
theorem part7_spec (c : Dev nD) {Ψ : _ → sProp 𝕄} :
    iprop(recs m K ∗ xPts m c ∗ X8Raw c 14 ∗ SendSt m c 14 ∗ (∃ f, gxPts (F := F) c c f) ∗ free c 1 ∗ WRaw m c 1)
      ⊢ iprop(((xPts m c ∗ X8Raw c 16 ∗ SendSt m c 16 ∗ gxPts c c (gxFull m c) ∗ fly m c 1 ∗ WRaw m c 2) -∗ Ψ ⟨⟩)
        -∗ wpc c (k0_part7 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6 c (v2Of c) (k0_pay15 (xblk m c 14))) Ψ) := by
  rw [k0_part7_eq_skeleton]; unfold k0_part7_skel
  simp -zeta only [semSignalWord, semWaitWord, Prog.lift, Prog.bind_op, Prog.bind_ret, Prog.pure_eq_ret]
  iintro ⟨#Hr, Hx, Hraw, Hs, Hown, Hfr1, Hw⟩ Hk
  iapply (step_put m c 14 14 rfl rfl rfl) $$ Hraw; iintro ⟨Hraw, Hp⟩
  iapply (step_send m K c 14 14 rfl (ne_word c 14) (fun _ => Fin.ext k0_dev31_eq) rfl (k0_off30_eq c) (fun _ => rfl) (fun _ => recv_at c (k0_off29_eq c))) $$ Hr Hs Hp; iintro Hs
  iapply (step_load_x m c 15 rfl) $$ Hx; iintro Hx
  iapply (step_put m c 15 15 rfl rfl rfl) $$ Hraw; iintro ⟨Hraw, Hp⟩
  iapply (step_send m K c 15 15 rfl (ne_word c 15) (fun _ => Fin.ext k0_dev32_eq) rfl (k0_off32_eq c) (fun _ => rfl) (fun _ => recv_at c (k0_off31_eq c))) $$ Hr Hs Hp; iintro Hs
  iapply (step_own m c (k0_off33_eq c) (k0_off34_eq c)) $$ Hown Hs; iintro ⟨Hs, Hown⟩
  iapply (step_start m c 1 1 rfl 1 rfl rfl rfl rfl) $$ Hfr1 Hw; iintro ⟨Hfl1, Hw⟩
  iapply (step_ret (a := ⟨⟩))
  iapply Hk
  isplitl [Hx]; · iexact Hx
  isplitl [Hraw]; · iexact Hraw
  isplitl [Hs]; · iexact Hs
  isplitl [Hown]; · iexact Hown
  isplitl [Hfl1]; · iexact Hfl1
  iexact Hw

end Cert.Exchange

end
-- ==== Proof.PartsStream.lean ====
/-
The parts of the kernel's body, continued: the stream of `w`'s blocks through the two slots.
-/
module

public import proofs.«01_k».proof.Proof.Parts

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Role → ℕ)

/-- Blocks 0 and 1 of `w` fetched and cast, block 2 started. -/
theorem part8_spec (c : Dev nD) {Ψ : _ → sProp 𝕄} :
    iprop(owesX c 0 ∗ fly m c 0 ∗ fly m c 1 ∗ WRaw m c 2 ∗ WBack m c 0 ∗ W8St m c 0)
      ⊢ iprop(((owesX c 0 ∗ fly m c 2 ∗ free c 1 ∗ WRaw m c 3 ∗ WBack m c 2 ∗ W8St m c 2) -∗ Ψ ⟨⟩)
        -∗ wpc c (k0_part8 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6) Ψ) := by
  rw [k0_part8_eq_skeleton]; unfold k0_part8_skel
  simp -zeta only [semSignalWord, semWaitWord, Prog.lift, Prog.bind_op, Prog.bind_ret, Prog.pure_eq_ret]
  iintro ⟨HO, Hfl0, Hfl1, Hw, Hb, H8⟩ Hk
  iapply (step_fetch m c 0 0 rfl 0 rfl rfl rfl credit_ws) $$ Hfl0 HO Hb; iintro %v0 %hv0 ⟨Hfr0, HO, Hb⟩
  iapply (step_w8 m c 0 0 rfl rfl (pay_w m c 0 v0 hv0)) $$ H8; iintro H8
  iapply (step_start m c 2 2 rfl 0 rfl rfl rfl rfl) $$ Hfr0 Hw; iintro ⟨Hfl0, Hw⟩
  iapply (step_fetch m c 1 1 rfl 1 rfl rfl rfl credit_ws) $$ Hfl1 HO Hb; iintro %v1 %hv1 ⟨Hfr1, HO, Hb⟩
  iapply (step_w8 m c 1 1 rfl rfl (pay_w m c 1 v1 hv1)) $$ H8; iintro H8
  iapply (step_ret (a := ⟨⟩))
  iapply Hk
  isplitl [HO]; · iexact HO
  isplitl [Hfl0]; · iexact Hfl0
  isplitl [Hfr1]; · iexact Hfr1
  isplitl [Hw]; · iexact Hw
  isplitl [Hb]; · iexact Hb
  iexact H8

/-- Block 3 of `w` started, block 2 fetched and cast, block 4 started, block 3 fetched. -/
theorem part9_spec (c : Dev nD) {Ψ : _ → sProp 𝕄} :
    iprop(owesX c 0 ∗ fly m c 2 ∗ free c 1 ∗ WRaw m c 3 ∗ WBack m c 2 ∗ W8St m c 2)
      ⊢ iprop(((owesX c 0 ∗ fly m c 4 ∗ free c 1 ∗ WRaw m c 5 ∗ WBack m c 4 ∗ W8St m c 3) -∗ Ψ (wblk m c 3))
        -∗ wpc c (k0_part9 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6) Ψ) := by
  rw [k0_part9_eq_skeleton]; unfold k0_part9_skel
  simp -zeta only [semSignalWord, semWaitWord, Prog.lift, Prog.bind_op, Prog.bind_ret, Prog.pure_eq_ret]
  iintro ⟨HO, Hfl0, Hfr1, Hw, Hb, H8⟩ Hk
  iapply (step_start m c 3 3 rfl 1 rfl rfl rfl rfl) $$ Hfr1 Hw; iintro ⟨Hfl1, Hw⟩
  iapply (step_fetch m c 2 2 rfl 0 rfl rfl rfl credit_ws) $$ Hfl0 HO Hb; iintro %v2 %hv2 ⟨Hfr0, HO, Hb⟩
  iapply (step_w8 m c 2 2 rfl rfl (pay_w m c 2 v2 hv2)) $$ H8; iintro H8
  iapply (step_start m c 4 4 rfl 0 rfl rfl rfl rfl) $$ Hfr0 Hw; iintro ⟨Hfl0, Hw⟩
  iapply (step_fetch m c 3 3 rfl 1 rfl rfl rfl credit_ws) $$ Hfl1 HO Hb; iintro %v3 %hv3 ⟨Hfr1, HO, Hb⟩
  rw [show k0_pay22 v3 = wblk m c 3 from hv3]
  iapply (step_ret (a := (wblk m c 3)))
  iapply Hk
  isplitl [HO]; · iexact HO
  isplitl [Hfl0]; · iexact Hfl0
  isplitl [Hfr1]; · iexact Hfr1
  isplitl [Hw]; · iexact Hw
  isplitl [Hb]; · iexact Hb
  iexact H8

theorem pay23_w (c : Dev nD) (j : Fin 8) : k0_pay23 (F := F) (wblk m c j) = truncf .fp8e5m2 (wblk m c j : FVec F S512x2048 .f32) bitsLt_fp8e5m2_f32 :=
  shapeCast_self _ _

/-- Block 3 of `w` cast, block 5 started, block 4 fetched and cast, block 6 started. -/
theorem part10_spec (c : Dev nD) {Ψ : _ → sProp 𝕄} :
    iprop(owesX c 0 ∗ fly m c 4 ∗ free c 1 ∗ WRaw m c 5 ∗ WBack m c 4 ∗ W8St m c 3)
      ⊢ iprop(((owesX c 0 ∗ fly m c 5 ∗ fly m c 6 ∗ WRaw m c 7 ∗ WBack m c 5 ∗ W8St m c 5) -∗ Ψ ⟨⟩)
        -∗ wpc c (k0_part10 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6 (wblk m c 3)) Ψ) := by
  rw [k0_part10_eq_skeleton]; unfold k0_part10_skel
  simp -zeta only [semSignalWord, semWaitWord, Prog.lift, Prog.bind_op, Prog.bind_ret, Prog.pure_eq_ret]
  iintro ⟨HO, Hfl0, Hfr1, Hw, Hb, H8⟩ Hk
  iapply (step_w8 m c 3 3 rfl rfl (pay23_w m c 3)) $$ H8; iintro H8
  iapply (step_start m c 5 5 rfl 1 rfl rfl rfl rfl) $$ Hfr1 Hw; iintro ⟨Hfl1, Hw⟩
  iapply (step_fetch m c 4 4 rfl 0 rfl rfl rfl credit_ws) $$ Hfl0 HO Hb; iintro %v4 %hv4 ⟨Hfr0, HO, Hb⟩
  iapply (step_w8 m c 4 4 rfl rfl (pay_w m c 4 v4 hv4)) $$ H8; iintro H8
  iapply (step_start m c 6 6 rfl 0 rfl rfl rfl rfl) $$ Hfr0 Hw; iintro ⟨Hfl0, Hw⟩
  iapply (step_ret (a := ⟨⟩))
  iapply Hk
  isplitl [HO]; · iexact HO
  isplitl [Hfl1]; · iexact Hfl1
  isplitl [Hfl0]; · iexact Hfl0
  isplitl [Hw]; · iexact Hw
  isplitl [Hb]; · iexact Hb
  iexact H8

/-- Block 5 of `w` fetched and cast, block 7 started, block 6 fetched and cast. -/
theorem part11_spec (c : Dev nD) {Ψ : _ → sProp 𝕄} :
    iprop(owesX c 0 ∗ fly m c 5 ∗ fly m c 6 ∗ WRaw m c 7 ∗ WBack m c 5 ∗ W8St m c 5)
      ⊢ iprop(((owesX c 0 ∗ fly m c 7 ∗ free c 0 ∗ WRaw m c 8 ∗ WBack m c 7 ∗ W8St m c 7) -∗ Ψ ⟨⟩)
        -∗ wpc c (k0_part11 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6) Ψ) := by
  rw [k0_part11_eq_skeleton]; unfold k0_part11_skel
  simp -zeta only [semSignalWord, semWaitWord, Prog.lift, Prog.bind_op, Prog.bind_ret, Prog.pure_eq_ret]
  iintro ⟨HO, Hfl1, Hfl0, Hw, Hb, H8⟩ Hk
  iapply (step_fetch m c 5 5 rfl 1 rfl rfl rfl credit_ws) $$ Hfl1 HO Hb; iintro %v5 %hv5 ⟨Hfr1, HO, Hb⟩
  iapply (step_w8 m c 5 5 rfl rfl (pay_w m c 5 v5 hv5)) $$ H8; iintro H8
  iapply (step_start m c 7 7 rfl 1 rfl rfl rfl rfl) $$ Hfr1 Hw; iintro ⟨Hfl1, Hw⟩
  iapply (step_fetch m c 6 6 rfl 0 rfl rfl rfl credit_ws) $$ Hfl0 HO Hb; iintro %v6 %hv6 ⟨Hfr0, HO, Hb⟩
  iapply (step_w8 m c 6 6 rfl rfl (pay_w m c 6 v6 hv6)) $$ H8; iintro H8
  iapply (step_ret (a := ⟨⟩))
  iapply Hk
  isplitl [HO]; · iexact HO
  isplitl [Hfl1]; · iexact Hfl1
  isplitl [Hfr0]; · iexact Hfr0
  isplitl [Hw]; · iexact Hw
  isplitl [Hb]; · iexact Hb
  iexact H8

end Cert.Exchange

end
-- ==== Proof.PartsEnd.lean ====
/-
The parts of the kernel's body, continued: the last block of `w`, the waits for the blocks received, the product, and the
waits for the blocks sent.
-/
module

public import proofs.«01_k».proof.Proof.Parts

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Role → ℕ)

theorem recv_start (c : Dev nD) : owesX (F := F) c 0 ⊢ iprop(upTo 0 (recvDone m c) (recvPre m c) -∗ RecvSt m c 0) := by
  unfold RecvSt
  iintro HO Hv
  isplitl [HO]; · iexact HO
  iexact Hv

/-- Block 7 of `w` fetched and cast; the blocks of devices 0 to 5 received. -/
theorem part12_spec (c : Dev nD) {Ψ : _ → sProp 𝕄} :
    iprop(recs m K ∗ owesX c 0 ∗ fly m c 7 ∗ WBack m c 7 ∗ W8St m c 7 ∗ upTo 0 (recvDone m c) (recvPre m c))
      ⊢ iprop(((free c 1 ∗ WBack m c 8 ∗ W8St m c 8 ∗ RecvSt m c 6) -∗ Ψ (Scalar.cmpi .ne (Scalar.extui (Scalar.cmpi .ne (v2Of c) 6#32 : BitVec 1) : BitVec 32) 0#32))
        -∗ wpc c (k0_part12 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6 (v2Of c)) Ψ) := by
  rw [k0_part12_eq_skeleton]; unfold k0_part12_skel
  simp -zeta only [semSignalWord, semWaitWord, Prog.lift, Prog.bind_op, Prog.bind_ret, Prog.pure_eq_ret]
  iintro ⟨#Hr, HO, Hfl1, Hb, H8, Hv⟩ Hk
  iapply (step_fetch m c 7 7 rfl 1 rfl rfl rfl credit_ws) $$ Hfl1 HO Hb; iintro %v7 %hv7 ⟨Hfr1, HO, Hb⟩
  iapply (step_w8 m c 7 7 rfl rfl (pay_w m c 7 v7 hv7)) $$ H8; iintro H8
  ihave Hv := (recv_start m c) $$ HO Hv
  iapply (step_recv m K c 0 0 rfl (ne_word c 0) rfl credit_cols) $$ Hr Hv; iintro Hv
  iapply (step_recv m K c 1 1 rfl (ne_word c 1) rfl credit_cols) $$ Hr Hv; iintro Hv
  iapply (step_recv m K c 2 2 rfl (ne_word c 2) rfl credit_cols) $$ Hr Hv; iintro Hv
  iapply (step_recv m K c 3 3 rfl (ne_word c 3) rfl credit_cols) $$ Hr Hv; iintro Hv
  iapply (step_recv m K c 4 4 rfl (ne_word c 4) rfl credit_cols) $$ Hr Hv; iintro Hv
  iapply (step_recv m K c 5 5 rfl (ne_word c 5) rfl credit_cols) $$ Hr Hv; iintro Hv
  iapply (step_ret (a := (Scalar.cmpi .ne (Scalar.extui (Scalar.cmpi .ne (v2Of c) 6#32 : BitVec 1) : BitVec 32) 0#32)))
  iapply Hk
  isplitl [Hfr1]; · iexact Hfr1
  isplitl [Hb]; · iexact Hb
  isplitl [H8]; · iexact H8
  iexact Hv

/-- The gathered panel, whole. -/
def gxWhole (c : Dev nD) : sProp 𝕄 := ((c : Thread nD τ).loc cc0_scratch1) ↦{fullShare} gxFull m c
/-- The cast weights, whole. -/
def w8Whole (c : Dev nD) : sProp 𝕄 := ((c : Thread nD τ).loc cc0_scratch2) ↦{fullShare} w8Full m c

theorem gx_whole (c : Dev nD) : gxWhole m c = bigSep Finset.univ fun e : Fin 16 => gxPts c e (gxFull m c) :=
  Ring.pointsTo_blocks (ℓ := (c : Thread nD τ).loc cc0_scratch1) (fun e => (colR e).set) col_disj col_cover (gxFull m c)
theorem w8_whole (c : Dev nD) : w8Whole m c = bigSep Finset.univ fun j : Fin 8 => w8Pts c j (w8Full m c) :=
  Ring.pointsTo_blocks (ℓ := (c : Thread nD τ).loc cc0_scratch2) (fun j => (wrowR j).set) wrow_disj wrow_cover (w8Full m c)

theorem w8_end (c : Dev nD) : W8St m c 8 ⊢ w8Whole m c :=
  Entails.of_eq ((upTo_end (M := 𝕄) (k := 8) _ _).trans (w8_whole m c).symm)

/-- All the waits done: the panel whole, the receive counters at zero. -/
theorem recv_end (c : Dev nD) : RecvSt m c 16 ⊢ iprop(owesX (F := F) c 0 ∗ gxWhole m c ∗ bigSep Finset.univ fun e : Fin 16 => semVal (recvCell c e) 0) := by
  have h : upTo 16 (recvDone m c) (recvPre m c) = iprop(gxWhole m c ∗ bigSep Finset.univ fun e : Fin 16 => (semVal (recvCell c e) 0 : sProp 𝕄)) := by
    rw [upTo_end (M := 𝕄) (recvDone m c) (recvPre m c), gx_whole, ← bigSep_sep']; rfl
  unfold RecvSt
  rw [h]

theorem zero2 : (![0, 0] : Fin 2 → Nat) = fun _ => 0 := by
  funext a; match a with | 0 => rfl | 1 => rfl

theorem step_load_gx (c : Dev nD) {inb} {hl} {α : Type} {Q : α → sProp 𝕄} {R : Vec F S256x4096 .fp8e4m3 → Prog (TpuEff nD τ sig (Elt F) Λ₀ .tc) α} :
    gxWhole m c ⊢ iprop((gxWhole m c -∗ wpc c (R (gxFull m c)) Q)
      -∗ wpc c (.op (.load gxM (Rect.unit (s := S256x4096) ![0, 0] S256x4096.size inb).toLoadRect hl) R) Q) := by
  have h := wp_load_rect (defs := defs₀ (F := F)) (Γ := .empty) 𝒱₀ (c : Thread nD τ) none Set.univ (m := gxM) (r := Rect.unit (s := S256x4096) ![0, 0] S256x4096.size inb)
    (hl := hl) (q := fullShare) (f := gxFull m c) (k := R) (Q := Q) (Finset.subset_univ _)
  have e : (gxM.access (Rect.unit (s := S256x4096) ![0, 0] S256x4096.size inb)).read (Elt F) (gxFull m c) = gxFull m c :=
    Memref.read_access_unit_zero (Elt F) cc0_scratch1 zero2 inb (gxFull m c)
  rw [e] at h
  exact h

theorem step_load_w8 (c : Dev nD) {inb} {hl} {α : Type} {Q : α → sProp 𝕄} {R : Vec F S4096x2048 .fp8e5m2 → Prog (TpuEff nD τ sig (Elt F) Λ₀ .tc) α} :
    w8Whole m c ⊢ iprop((w8Whole m c -∗ wpc c (R (w8Full m c)) Q)
      -∗ wpc c (.op (.load w8M (Rect.unit (s := S4096x2048) ![0, 0] S4096x2048.size inb).toLoadRect hl) R) Q) := by
  have h := wp_load_rect (defs := defs₀ (F := F)) (Γ := .empty) 𝒱₀ (c : Thread nD τ) none Set.univ (m := w8M) (r := Rect.unit (s := S4096x2048) ![0, 0] S4096x2048.size inb)
    (hl := hl) (q := fullShare) (f := w8Full m c) (k := R) (Q := Q) (Finset.subset_univ _)
  have e : (w8M.access (Rect.unit (s := S4096x2048) ![0, 0] S4096x2048.size inb)).read (Elt F) (w8Full m c) = w8Full m c :=
    Memref.read_access_unit_zero (Elt F) cc0_scratch2 zero2 inb (w8Full m c)
  rw [e] at h
  exact h

/-- The two scales, as they stand in scalar memory. -/
def sxPts (c : Dev nD) : sProp 𝕄 := ((c : Thread nD τ).loc cc0_stg1_0) ↦{fullShare} sxstg m c
def swPts (c : Dev nD) : sProp 𝕄 := ((c : Thread nD τ).loc cc0_stg2_0) ↦{fullShare} swstg m c
/-- The result's buffer, with contents `f`. -/
def oPts (c : Dev nD) (f : (cc0_stg3_0 : Ref sig .tc).ty.Contents (Elt F)) : sProp 𝕄 := ((c : Thread nD τ).loc cc0_stg3_0) ↦{fullShare} f

theorem idx_one (i j : S1.Idx) : i = j := by
  funext a
  match a with
  | 0 => exact Fin.ext (by have h : (i 0).val < 1 := (i 0).isLt; have h' : (j 0).val < 1 := (j 0).isLt; omega)

theorem step_sx (c : Dev nD) {inb} {h1} {hp} {Q : Elt F .f32 → sProp 𝕄} :
    sxPts m c ⊢ iprop((sxPts m c -∗ Q (sxstg m c idx0)) -∗ wpc c (smemLoad sxM (Rect.unit (s := S1) ![0] S1.size inb) h1 hp) Q) := by
  unfold sxPts smemLoad
  iintro H Hk
  iapply (wp_smemLoadElt (defs := defs₀ (F := F)) (Γ := .empty) 𝒱₀ (c : Thread nD τ) none Set.univ (m := sxM) (r := Rect.unit (s := S1) ![0] S1.size inb) (Finset.subset_univ _)) $$ H
  iintro H
  iapply step_ret
  rw [show ((sxM.access (Rect.unit (s := S1) ![0] S1.size inb)).read (Elt F) (sxstg m c) _ : Elt F .f32) = sxstg m c idx0 from congrArg (sxstg m c) (idx_one _ _)]
  iapply Hk
  iexact H

theorem step_sw (c : Dev nD) {inb} {h1} {hp} {Q : Elt F .f32 → sProp 𝕄} :
    swPts m c ⊢ iprop((swPts m c -∗ Q (swstg m c idx0)) -∗ wpc c (smemLoad swM (Rect.unit (s := S1) ![0] S1.size inb) h1 hp) Q) := by
  unfold swPts smemLoad
  iintro H Hk
  iapply (wp_smemLoadElt (defs := defs₀ (F := F)) (Γ := .empty) 𝒱₀ (c : Thread nD τ) none Set.univ (m := swM) (r := Rect.unit (s := S1) ![0] S1.size inb) (Finset.subset_univ _)) $$ H
  iintro H
  iapply step_ret
  rw [show ((swM.access (Rect.unit (s := S1) ![0] S1.size inb)).read (Elt F) (swstg m c) _ : Elt F .f32) = swstg m c idx0 from congrArg (swstg m c) (idx_one _ _)]
  iapply Hk
  iexact H

/-- The result's store, over whatever the buffer held. -/
theorem step_out (c : Dev nD) {inb} {hl} {hx} {hm} {w : Vec F S256x2048 .f32} {α : Type} {Q : α → sProp 𝕄} {R : Prog (TpuEff nD τ sig (Elt F) Λ₀ .tc) α} :
    (∃ f, oPts (F := F) c f) ⊢ iprop((oPts c w -∗ wpc c R Q)
      -∗ wpc c (.op (.load oM (Rect.unit (s := S256x2048) ![0, 0] S256x2048.size inb).toLoadRect hl) fun _ =>
          .op (.store oM (Rect.unit (s := S256x2048) ![0, 0] S256x2048.size inb) w Finset.univ hx hm) fun _ => R) Q) := by
  have hw := fun f => Memref.write_access_unit_zero_univ (Elt F) cc0_stg3_0 zero2 inb f w
  unfold oPts
  iintro ⟨%f, H⟩ Hk
  iapply (wp_load_rect 𝒱₀ (c : Thread nD τ) none Set.univ (m := oM) (r := Rect.unit (s := S256x2048) ![0, 0] S256x2048.size inb) (Finset.subset_univ _)) $$ H
  iintro H
  iapply (wp_store 𝒱₀ (c : Thread nD τ) none Set.univ (m := oM) (r := Rect.unit (s := S256x2048) ![0, 0] S256x2048.size inb) (Mk := Finset.univ) (Finset.subset_univ _)) $$ H
  iintro H
  ihave H' := (Entails.of_eq (congrArg (fun g => (((c : Thread nD τ).loc cc0_stg3_0) ↦{fullShare} g : sProp 𝕄)) (hw f))) $$ H
  iapply Hk
  iexact H'

/-- The blocks of devices 6 to 15 received, the panel read. -/
theorem part13_spec (c : Dev nD) {Ψ : _ → sProp 𝕄} :
    iprop(recs m K ∗ RecvSt m c 6)
      ⊢ iprop(((gxWhole m c ∗ owesX c 0 ∗ bigSep Finset.univ fun e : Fin 16 => semVal (recvCell c e) 0) -∗ Ψ (gxFull m c))
        -∗ wpc c (k0_part13 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6 (v2Of c) (Scalar.cmpi .ne (Scalar.extui (Scalar.cmpi .ne (v2Of c) 6#32 : BitVec 1) : BitVec 32) 0#32)) Ψ) := by
  rw [k0_part13_eq_skeleton]; unfold k0_part13_skel
  simp -zeta only [semSignalWord, semWaitWord, Prog.lift, Prog.bind_op, Prog.bind_ret, Prog.pure_eq_ret]
  iintro ⟨#Hr, Hv⟩ Hk
  iapply (step_recv m K c 6 6 rfl (ne_word c 6) rfl credit_cols) $$ Hr Hv; iintro Hv
  iapply (step_recv m K c 7 7 rfl (ne_word c 7) rfl credit_cols) $$ Hr Hv; iintro Hv
  iapply (step_recv m K c 8 8 rfl (ne_word c 8) rfl credit_cols) $$ Hr Hv; iintro Hv
  iapply (step_recv m K c 9 9 rfl (ne_word c 9) rfl credit_cols) $$ Hr Hv; iintro Hv
  iapply (step_recv m K c 10 10 rfl (ne_word c 10) rfl credit_cols) $$ Hr Hv; iintro Hv
  iapply (step_recv m K c 11 11 rfl (ne_word c 11) rfl credit_cols) $$ Hr Hv; iintro Hv
  iapply (step_recv m K c 12 12 rfl (ne_word c 12) rfl credit_cols) $$ Hr Hv; iintro Hv
  iapply (step_recv m K c 13 13 rfl (ne_word c 13) rfl credit_cols) $$ Hr Hv; iintro Hv
  iapply (step_recv m K c 14 14 rfl (ne_word c 14) rfl credit_cols) $$ Hr Hv; iintro Hv
  iapply (step_recv m K c 15 15 rfl (ne_word c 15) rfl credit_cols) $$ Hr Hv; iintro Hv
  ihave Hv := (recv_end m c) $$ Hv
  icases Hv with ⟨HO, Hg, Hvz⟩
  iapply (step_load_gx m c) $$ Hg; iintro Hg
  iapply (step_ret (a := (gxFull m c)))
  iapply Hk
  isplitl [Hg]; · iexact Hg
  isplitl [HO]; · iexact HO
  iexact Hvz

/-- The product stored; the blocks sent to devices 0 to 6 waited for. -/
theorem part14_spec (c : Dev nD) {Ψ : _ → sProp 𝕄} :
    iprop(recs m K ∗ w8Whole m c ∗ sxPts m c ∗ swPts m c ∗ (∃ f, oPts (F := F) c f) ∗ FinSt m c 0)
      ⊢ iprop(((w8Whole m c ∗ sxPts m c ∗ swPts m c ∗ oPts c (outAt m c) ∗ FinSt m c 7) -∗ Ψ 7#32)
        -∗ wpc c (k0_part14 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6 (v2Of c) (gxFull m c)) Ψ) := by
  rw [k0_part14_eq_skeleton]; unfold k0_part14_skel
  simp -zeta only [semSignalWord, semWaitWord, Prog.lift, Prog.bind_op, Prog.bind_ret, Prog.pure_eq_ret]
  iintro ⟨#Hr, Hw8, Hsx, Hsw, Ho, Hf⟩ Hk
  iapply (step_load_w8 m c) $$ Hw8; iintro Hw8
  iapply step_bind; iapply (step_sx m c) $$ Hsx; iintro Hsx
  iapply step_bind; iapply (step_sw m c) $$ Hsw; iintro Hsw
  iapply (step_out c) $$ Ho; iintro Ho
  iapply (step_fin m K c 0 0 rfl (ne_word c 0) rfl credit_rows) $$ Hr Hf; iintro Hf
  iapply (step_fin m K c 1 1 rfl (ne_word c 1) rfl credit_rows) $$ Hr Hf; iintro Hf
  iapply (step_fin m K c 2 2 rfl (ne_word c 2) rfl credit_rows) $$ Hr Hf; iintro Hf
  iapply (step_fin m K c 3 3 rfl (ne_word c 3) rfl credit_rows) $$ Hr Hf; iintro Hf
  iapply (step_fin m K c 4 4 rfl (ne_word c 4) rfl credit_rows) $$ Hr Hf; iintro Hf
  iapply (step_fin m K c 5 5 rfl (ne_word c 5) rfl credit_rows) $$ Hr Hf; iintro Hf
  iapply (step_fin m K c 6 6 rfl (ne_word c 6) rfl credit_rows) $$ Hr Hf; iintro Hf
  iapply (step_ret (a := 7#32))
  iapply Hk
  isplitl [Hw8]; · iexact Hw8
  isplitl [Hsx]; · iexact Hsx
  isplitl [Hsw]; · iexact Hsw
  isplitl [Ho]; · iexact Ho
  iexact Hf

end Cert.Exchange

end
-- ==== Proof.Flow.lean ====
/-
The kernel's body, whole: what the launch deals a device is put in the form the parts take, the parts are run one after
the other, and what they leave is put back in the form the launch's end takes.
-/
module

public import proofs.«01_k».proof.Proof.PartsSend
public import proofs.«01_k».proof.Proof.PartsStream
public import proofs.«01_k».proof.Proof.PartsEnd

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Role → ℕ)

/-! ## What the launch deals a device -/

/-- The rights to signal every other device's barrier, -/
def barToks (c : Dev nD) : sProp 𝕄 := bigSep Finset.univ fun e : Fin 16 => if e = c then iprop(emp) else dutyTok ER (barCell e) 0 c
/-- and those of the transfers to every other device. -/
def sndToks (c : Dev nD) : sProp 𝕄 :=
  bigSep Finset.univ fun e : Fin 16 => if e = c then iprop(emp) else iprop(dutyTok ER (sendCell c e) 0 e ∗ dutyTok ER (recvCell e c) 0 c)
/-- The positions at the device's own cells. -/
def sendAts (c : Dev nD) : sProp 𝕄 := bigSep Finset.univ fun e : Fin 16 => atPos ER (sendCell c e) 0 ∅ 0
def recvAts (c : Dev nD) : sProp 𝕄 := bigSep Finset.univ fun e : Fin 16 => atPos ER (recvCell c e) 0 ∅ 0
/-- The credit of the blocks the other devices owe. -/
def recvCreds (c : Dev nD) : sProp 𝕄 := bigSep Finset.univ fun e : Fin 16 => if e = c then iprop(emp) else cred (tallyAt (recvCell c e) () N)
/-- A scratch buffer, at some contents. -/
def someAt (c : Dev nD) (b : Ref sig .tc) : sProp 𝕄 := iprop(∃ f : Buf (Elt F) ((c : Thread nD τ).loc b), ((c : Thread nD τ).loc b) ↦{fullShare} f)
/-- Device `c`'s `w`, whole. -/
def wWhole (c : Dev nD) : sProp 𝕄 := ((c : Thread nD τ).loc main_arg1) ↦{fullShare} warr m c
/-- The counters at zero of the send cells, and of the receive cells. -/
def sendZero (c : Dev nD) : sProp 𝕄 := bigSep Finset.univ fun e : Fin 16 => semVal (sendCell c e) 0
def recvZero (c : Dev nD) : sProp 𝕄 := bigSep Finset.univ fun e : Fin 16 => semVal (recvCell c e) 0

/-! ## Families with one member left out -/

section Ifs
variable {M : Type} [URA M] (c : Fin 16)

theorem if_sep (A B : Fin 16 → sProp M) :
    iprop((bigSep Finset.univ fun e => if e = c then iprop(emp) else A e) ∗ bigSep Finset.univ fun e => if e = c then iprop(emp) else B e)
      = bigSep Finset.univ fun e => if e = c then iprop(emp) else iprop(A e ∗ B e) := by
  rw [← erase_if, ← erase_if, ← erase_if, ← bigSep_sep']

theorem if_fill (P : sProp M) (A : Fin 16 → sProp M) :
    iprop(P ∗ bigSep Finset.univ fun e => if e = c then iprop(emp) else A e) = bigSep Finset.univ fun e => if e = c then P else A e := by
  rw [← erase_if, bigSep_univ_at (fun e => if e = c then P else A e) c, if_pos rfl]
  exact congrArg (fun X => iprop(P ∗ X)) (bigSep_congr fun x hx => (if_neg (Finset.mem_erase.mp hx).1).symm)

theorem all_mono {k : ℕ} {A B : Fin k → sProp M} (h : ∀ e, A e ⊢ B e) : bigSep Finset.univ A ⊢ bigSep Finset.univ B := bigSep_mono fun e _ => h e

end Ifs

/-! ## In -/

theorem blocks_in {ℓ : Loc nD τ sig} {k : ℕ} (I : Fin k → Finset (Idx ℓ)) (hd : ∀ b b', b ≠ b' → Disjoint (I b) (I b')) (hc : Finset.univ.biUnion I = Finset.univ) :
    iprop(∃ f : Buf (Elt F) ℓ, ℓ ↦{fullShare} f) ⊢ (bigSep Finset.univ fun b => iprop(∃ f : Buf (Elt F) ℓ, ℓ ↦[I b]{fullShare} f) : sProp 𝕄) := by
  iintro ⟨%f, H⟩
  ihave H := (Entails.of_eq (Ring.pointsTo_blocks I hd hc f)) $$ H
  have h : (bigSep Finset.univ fun b => (ℓ ↦[I b]{fullShare} f : sProp 𝕄)) ⊢ bigSep Finset.univ fun b => iprop(∃ f : Buf (Elt F) ℓ, ℓ ↦[I b]{fullShare} f) :=
    all_mono fun b => by iintro H; iexists f; iexact H
  iapply h
  iexact H

theorem x8_in (c : Dev nD) : someAt (F := F) c cc0_scratch0 ⊢ X8Raw (F := F) c 0 := by
  unfold someAt X8Raw
  rw [upTo_zero]
  exact blocks_in (ℓ := (c : Thread nD τ).loc cc0_scratch0) (fun e => (rowR e).set) row_disj row_cover

theorem w8_in (c : Dev nD) : someAt (F := F) c cc0_scratch2 ⊢ W8St m c 0 := by
  unfold someAt W8St
  rw [upTo_zero]
  exact blocks_in (ℓ := (c : Thread nD τ).loc cc0_scratch2) (fun e => (wrowR e).set) wrow_disj wrow_cover

theorem gx_in (c : Dev nD) : someAt (F := F) c cc0_scratch1
    ⊢ iprop((∃ f, gxPts (F := F) c c f) ∗ bigSep Finset.univ fun e : Fin 16 => if e = c then iprop(emp) else iprop(∃ f, gxPts (F := F) c e f)) := by
  rw [← erase_if c (fun e => iprop(∃ f, gxPts (F := F) c e f)), ← bigSep_univ_at (fun e => iprop(∃ f, gxPts (F := F) c e f)) c]
  exact blocks_in (ℓ := (c : Thread nD τ).loc cc0_scratch1) (fun e => (colR e).set) col_disj col_cover

theorem fin2_sep {M : Type} [URA M] (Φ : Fin 2 → sProp M) : bigSep Finset.univ Φ = iprop(Φ 0 ∗ Φ 1) := bigSep_univ_eq_bigSepL [0, 1] (by decide) (by decide) Φ

theorem slots_in (c : Dev nD) : someAt (F := F) c cc0_scratch3
    ⊢ iprop((semVal (wCell c 0) 0 ∗ semVal (wCell c 1) 0) -∗ (free (F := F) c 0 ∗ free (F := F) c 1)) := by
  have h := blocks_in (F := F) (ℓ := (c : Thread nD τ).loc cc0_scratch3) (fun s => (slotR s).set) slot_disj slot_cover
  rw [fin2_sep] at h
  unfold someAt free slotPts
  iintro H ⟨H0, H1⟩
  ihave H := h $$ H
  icases H with ⟨Ha, Hb⟩
  isplitl [Ha H0]
  · isplitl [Ha]; · iexact Ha
    iexact H0
  isplitl [Hb]; · iexact Hb
  iexact H1

theorem w_in (c : Dev nD) : wWhole m c ⊢ iprop(WBack m c 0 ∗ WRaw m c 0) := by
  have h : wWhole m c = bigSep Finset.univ (wPts m c) :=
    Ring.pointsTo_blocks (ℓ := (c : Thread nD τ).loc main_arg1) (fun j => (wrowR j).set) wrow_disj wrow_cover (warr m c)
  unfold WRaw WBack
  rw [upTo_zero, upTo_zero, h, ← bigSep_sep']
  refine all_mono fun j => ?_
  iintro H
  isplitr [H]; · iempintro
  iexact H

theorem sig_in (c : Dev nD) : owesX (F := F) c (O₀ c)
    ⊢ iprop((barToks c ∗ bigSep Finset.univ fun e : Fin 16 => if e = c then iprop(emp) else iprop(∃ f, gxPts (F := F) c e f)) -∗ SigSt (F := F) c 0) := by
  unfold SigSt barToks O₀
  rw [upTo_zero, if_sep]
  iintro HO H
  isplitl [HO]; · iexact HO
  iexact H

theorem send_in (c : Dev nD) : owesX (F := F) c (owedR c 0)
    ⊢ iprop((sndToks c ∗ bigSep Finset.univ fun e : Fin 16 => if e = c then iprop(emp) else iprop(∃ f, gxPts (F := F) e c f)) -∗ SendSt m c 0) := by
  have h : (bigSep Finset.univ fun e : Fin 16 => if e = c then iprop(emp) else iprop((dutyTok ER (sendCell c e) 0 e ∗ dutyTok ER (recvCell e c) 0 c) ∗ ∃ f, gxPts (F := F) e c f) : sProp 𝕄)
      ⊢ bigSep Finset.univ (sendPre (F := F) c) := all_mono fun e => by
    unfold sendPre
    by_cases he : e = c
    · rw [if_pos he, if_pos he]
    · rw [if_neg he, if_neg he]
      iintro ⟨⟨H1, H2⟩, H3⟩
      isplitl [H1]; · iexact H1
      isplitl [H2]; · iexact H2
      iexact H3
  unfold SendSt sndToks
  rw [upTo_zero, if_sep]
  iintro HO H
  isplitl [HO]; · iexact HO
  iapply h
  iexact H

theorem send_out (c : Dev nD) : SendSt m c 16 ⊢ iprop(owesX (F := F) c 0 ∗ bigSep Finset.univ (sendPost m c)) := by
  unfold SendSt
  rw [owedR_end, upTo_end (M := 𝕄) (sendPost m c) (sendPre (F := F) c)]

theorem recv_in (c : Dev nD) : recvAts (F := F) c ⊢ iprop(recvCreds c -∗ gxPts c c (gxFull m c) -∗ upTo 0 (recvDone m c) (recvPre m c)) := by
  have h : iprop(recvAts (F := F) c ∗ (gxPts c c (gxFull m c) ∗ recvCreds c)) ⊢ upTo 0 (recvDone m c) (recvPre m c) := by
    unfold recvAts recvCreds
    rw [upTo_zero, if_fill, ← bigSep_sep']
    refine all_mono fun e => ?_
    unfold recvPre
    by_cases he : e = c
    · subst he; rw [if_pos rfl]
    · rw [if_neg he, if_neg he]
  iintro H1 H2 H3
  iapply h
  isplitl [H1]; · iexact H1
  isplitl [H3]; · iexact H3
  iexact H2

theorem fin_in (c : Dev nD) : owesX (F := F) c 0 ⊢ iprop(sendAts c -∗ (bigSep Finset.univ (sendPost m c)) -∗ FinSt m c 0) := by
  have h : iprop(sendAts (F := F) c ∗ bigSep Finset.univ (sendPost m c)) ⊢ upTo 0 (finDone m c) (finPre m c) := by
    unfold sendAts
    rw [upTo_zero, ← bigSep_sep']
    exact all_mono fun e => .rfl
  unfold FinSt
  iintro HO H1 H2
  isplitl [HO]; · iexact HO
  iapply h
  isplitl [H1]; · iexact H1
  iexact H2

/-! ## Out -/

theorem fin_out (c : Dev nD) : FinSt m c 16 ⊢ iprop(owesX (F := F) c 0 ∗ someAt (F := F) c cc0_scratch0 ∗ sendZero c) := by
  have hx : (((c : Thread nD τ).loc cc0_scratch0) ↦{fullShare} x8Full m c : sProp 𝕄) = bigSep Finset.univ fun e : Fin 16 => x8Pts c e (x8Full m c) :=
    Ring.pointsTo_blocks (ℓ := (c : Thread nD τ).loc cc0_scratch0) (fun e => (rowR e).set) row_disj row_cover (x8Full m c)
  have h : upTo 16 (finDone m c) (finPre m c) = iprop((((c : Thread nD τ).loc cc0_scratch0) ↦{fullShare} x8Full m c) ∗ sendZero c) := by
    unfold sendZero
    rw [upTo_end (M := 𝕄) (finDone m c) (finPre m c), hx, ← bigSep_sep']; rfl
  unfold FinSt
  rw [h]
  unfold someAt
  iintro ⟨HO, H, Hz⟩
  isplitl [HO]; · iexact HO
  isplitl [H]; · iexists (x8Full m c); iexact H
  iexact Hz

theorem w_out (c : Dev nD) : WBack m c 8 ⊢ wWhole m c :=
  Entails.of_eq ((upTo_end (M := 𝕄) (k := 8) _ _).trans
    (Ring.pointsTo_blocks (ℓ := (c : Thread nD τ).loc main_arg1) (fun j => (wrowR j).set) wrow_disj wrow_cover (warr m c)).symm)

theorem slots_out (c : Dev nD) : iprop(free (F := F) c 0 ∗ free (F := F) c 1)
    ⊢ iprop(someAt (F := F) c cc0_scratch3 ∗ semVal (wCell c 0) 0 ∗ semVal (wCell c 1) 0) := by
  have h := Ring.pointsTo_blocks_join_exists (Ix := Unit) (Val := Elt F) (Name := ℕ) (U := UU) (Lvl := ℕ) (q := fullShare) (ℓ := (c : Thread nD τ).loc cc0_scratch3) (fun s : Fin 2 => (slotR s).set) slot_disj slot_cover default
  rw [fin2_sep] at h
  unfold someAt free slotPts
  iintro ⟨⟨Ha, H0⟩, Hb, H1⟩
  isplitl [Ha Hb]
  · iapply h
    isplitl [Ha]; · iexact Ha
    iexact Hb
  isplitl [H0]; · iexact H0
  iexact H1

theorem gx_out (c : Dev nD) : gxWhole m c ⊢ someAt (F := F) c cc0_scratch1 := by
  unfold someAt gxWhole; iintro H; iexists (gxFull m c); iexact H
theorem w8_out (c : Dev nD) : w8Whole m c ⊢ someAt (F := F) c cc0_scratch2 := by
  unfold someAt w8Whole; iintro H; iexists (w8Full m c); iexact H

end Cert.Exchange

end
-- ==== Proof.Body.lean ====
/-
The kernel's body as one run: its parts one after the other.
-/
module

public import proofs.«01_k».proof.Proof.Flow

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Role → ℕ)

theorem recv_zero (c : Dev nD) :
    iprop(bigSep (Finset.univ : Finset (Dev nD)) (fun e => semVal (recvCell c e) 0) : sProp 𝕄)
      ⊢ recvZero (F := F) c := .rfl

/-- The body up to the last two waits. -/
theorem part15_spec (c : Dev nD) {Ψ : _ → sProp 𝕄} :
    iprop(recs m K ∗ SigSt (F := F) c 0 ∗ cred (tallyAt (barCell c) () 15) ∗ atPos ER (barCell c) 0 ∅ 0 ∗ free (F := F) c 0 ∗ free (F := F) c 1 ∗ WBack m c 0 ∗ WRaw m c 0 ∗ xPts m c ∗ X8Raw (F := F) c 0 ∗ sndToks (F := F) c ∗ (∃ f, gxPts (F := F) c c f) ∗ W8St m c 0 ∗ recvAts (F := F) c ∗ recvCreds (F := F) c ∗ sendAts (F := F) c ∗ sxPts m c ∗ swPts m c ∗ (∃ f, oPts (F := F) c f))
      ⊢ iprop(((xPts m c ∗ sxPts m c ∗ swPts m c ∗ oPts c (outAt m c) ∗ w8Whole m c ∗ gxWhole m c ∗ free (F := F) c 0 ∗ free (F := F) c 1 ∗ WBack m c 8 ∗ semVal (barCell c) 0 ∗ recvZero (F := F) c ∗ FinSt m c 14) -∗ Ψ ⟨v2Of c, (Scalar.cmpi .ne (Scalar.extui (Scalar.cmpi .ne (v2Of c) 14#32 : BitVec 1) : BitVec 32) 0#32)⟩)
        -∗ wpc c (k0_part15 (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6) Ψ) := by
  rw [k0_part15_eq_skeleton]; unfold k0_part15_skel
  simp -zeta only [semSignalWord, semWaitWord, Prog.lift, Prog.bind_op, Prog.bind_ret, Prog.pure_eq_ret]
  iintro ⟨#Hr, H, Hc, Hat, Hfr0, Hfr1, Hb, Hw, Hx, Hraw, Hst, Hown, H8, Hra, Hrc, Hsa, Hsx, Hsw, Ho⟩ Hk
  iapply step_bind
  iapply (part1_spec m K c) $$ [H]
  · isplitr; · iexact Hr
    iexact H
  iintro ⟨H⟩
  iapply step_bind
  iapply (part2_spec m K c) $$ [H Hc Hat Hfr0 Hw]
  · isplitr; · iexact Hr
    isplitl [H]; · iexact H
    isplitl [Hc]; · iexact Hc
    isplitl [Hat]; · iexact Hat
    isplitl [Hfr0]; · iexact Hfr0
    iexact Hw
  iintro ⟨HO, Hz, Hg, Hfl0, Hw⟩
  ihave Hs := (send_in m c) $$ HO [Hst Hg]
  · isplitl [Hst]; · iexact Hst
    iexact Hg
  iapply step_bind
  iapply (part3_spec m K c) $$ [Hx Hraw Hs]
  · isplitr; · iexact Hr
    isplitl [Hx]; · iexact Hx
    isplitl [Hraw]; · iexact Hraw
    iexact Hs
  iintro ⟨Hx, Hraw, Hs, Hp⟩
  iapply step_bind
  iapply (part4_spec m K c) $$ [Hx Hraw Hs Hp]
  · isplitr; · iexact Hr
    isplitl [Hx]; · iexact Hx
    isplitl [Hraw]; · iexact Hraw
    isplitl [Hs]; · iexact Hs
    iexact Hp
  iintro ⟨Hx, Hraw, Hs⟩
  iapply step_bind
  iapply (part5_spec m K c) $$ [Hx Hraw Hs]
  · isplitr; · iexact Hr
    isplitl [Hx]; · iexact Hx
    isplitl [Hraw]; · iexact Hraw
    iexact Hs
  iintro ⟨Hx, Hraw, Hs, Hp⟩
  iapply step_bind
  iapply (part6_spec m K c) $$ [Hx Hraw Hs Hp]
  · isplitr; · iexact Hr
    isplitl [Hx]; · iexact Hx
    isplitl [Hraw]; · iexact Hraw
    isplitl [Hs]; · iexact Hs
    iexact Hp
  iintro ⟨Hx, Hraw, Hs⟩
  iapply step_bind
  iapply (part7_spec m K c) $$ [Hx Hraw Hs Hown Hfr1 Hw]
  · isplitr; · iexact Hr
    isplitl [Hx]; · iexact Hx
    isplitl [Hraw]; · iexact Hraw
    isplitl [Hs]; · iexact Hs
    isplitl [Hown]; · iexact Hown
    isplitl [Hfr1]; · iexact Hfr1
    iexact Hw
  iintro ⟨Hx, Hraw, Hs, Hown, Hfl1, Hw⟩
  ihave Hs := (send_out m c) $$ Hs
  icases Hs with ⟨HO, Hsp⟩
  iapply step_bind
  iapply (part8_spec m c) $$ [HO Hfl0 Hfl1 Hw Hb H8]
  · isplitl [HO]; · iexact HO
    isplitl [Hfl0]; · iexact Hfl0
    isplitl [Hfl1]; · iexact Hfl1
    isplitl [Hw]; · iexact Hw
    isplitl [Hb]; · iexact Hb
    iexact H8
  iintro ⟨HO, Hfl0, Hfr1, Hw, Hb, H8⟩
  iapply step_bind
  iapply (part9_spec m c) $$ [HO Hfl0 Hfr1 Hw Hb H8]
  · isplitl [HO]; · iexact HO
    isplitl [Hfl0]; · iexact Hfl0
    isplitl [Hfr1]; · iexact Hfr1
    isplitl [Hw]; · iexact Hw
    isplitl [Hb]; · iexact Hb
    iexact H8
  iintro ⟨HO, Hfl0, Hfr1, Hw, Hb, H8⟩
  iapply step_bind
  iapply (part10_spec m c) $$ [HO Hfl0 Hfr1 Hw Hb H8]
  · isplitl [HO]; · iexact HO
    isplitl [Hfl0]; · iexact Hfl0
    isplitl [Hfr1]; · iexact Hfr1
    isplitl [Hw]; · iexact Hw
    isplitl [Hb]; · iexact Hb
    iexact H8
  iintro ⟨HO, Hfl1, Hfl0, Hw, Hb, H8⟩
  iapply step_bind
  iapply (part11_spec m c) $$ [HO Hfl1 Hfl0 Hw Hb H8]
  · isplitl [HO]; · iexact HO
    isplitl [Hfl1]; · iexact Hfl1
    isplitl [Hfl0]; · iexact Hfl0
    isplitl [Hw]; · iexact Hw
    isplitl [Hb]; · iexact Hb
    iexact H8
  iintro ⟨HO, Hfl1, Hfr0, Hw, Hb, H8⟩
  ihave Hv := (recv_in m c) $$ Hra Hrc Hown
  iapply step_bind
  iapply (part12_spec m K c) $$ [HO Hfl1 Hb H8 Hv]
  · isplitr; · iexact Hr
    isplitl [HO]; · iexact HO
    isplitl [Hfl1]; · iexact Hfl1
    isplitl [Hb]; · iexact Hb
    isplitl [H8]; · iexact H8
    iexact Hv
  iintro ⟨Hfr1, Hb, H8, Hv⟩
  iapply step_bind
  iapply (part13_spec m K c) $$ [Hv]
  · isplitr; · iexact Hr
    iexact Hv
  iintro ⟨Hg, HO, Hvz⟩
  ihave Hvz := (recv_zero c) $$ Hvz
  ihave Hw8 := (w8_end m c) $$ H8
  ihave Hf := (fin_in m c) $$ HO Hsa Hsp
  iapply step_bind
  iapply (part14_spec m K c) $$ [Hw8 Hsx Hsw Ho Hf]
  · isplitr; · iexact Hr
    isplitl [Hw8]; · iexact Hw8
    isplitl [Hsx]; · iexact Hsx
    isplitl [Hsw]; · iexact Hsw
    isplitl [Ho]; · iexact Ho
    iexact Hf
  iintro ⟨Hw8, Hsx, Hsw, Ho, Hf⟩
  iapply (step_fin m K c 7 7 rfl (ne_word c 7) rfl credit_rows) $$ Hr Hf; iintro Hf
  iapply (step_fin m K c 8 8 rfl (ne_word c 8) rfl credit_rows) $$ Hr Hf; iintro Hf
  iapply (step_fin m K c 9 9 rfl (ne_word c 9) rfl credit_rows) $$ Hr Hf; iintro Hf
  iapply (step_fin m K c 10 10 rfl (ne_word c 10) rfl credit_rows) $$ Hr Hf; iintro Hf
  iapply (step_fin m K c 11 11 rfl (ne_word c 11) rfl credit_rows) $$ Hr Hf; iintro Hf
  iapply (step_fin m K c 12 12 rfl (ne_word c 12) rfl credit_rows) $$ Hr Hf; iintro Hf
  iapply (step_fin m K c 13 13 rfl (ne_word c 13) rfl credit_rows) $$ Hr Hf; iintro Hf
  iapply (step_ret (a := ⟨v2Of c, (Scalar.cmpi .ne (Scalar.extui (Scalar.cmpi .ne (v2Of c) 14#32 : BitVec 1) : BitVec 32) 0#32)⟩))
  iapply Hk
  isplitl [Hx]; · iexact Hx
  isplitl [Hsx]; · iexact Hsx
  isplitl [Hsw]; · iexact Hsw
  isplitl [Ho]; · iexact Ho
  isplitl [Hw8]; · iexact Hw8
  isplitl [Hg]; · iexact Hg
  isplitl [Hfr0]; · iexact Hfr0
  isplitl [Hfr1]; · iexact Hfr1
  isplitl [Hb]; · iexact Hb
  isplitl [Hz]; · iexact Hz
  isplitl [Hvz]; · iexact Hvz
  iexact Hf

/-- The whole body. -/
theorem run_body (c : Dev nD) {Ψ : _ → sProp 𝕄} :
    iprop(recs m K ∗ SigSt (F := F) c 0 ∗ cred (tallyAt (barCell c) () 15) ∗ atPos ER (barCell c) 0 ∅ 0 ∗ free (F := F) c 0 ∗ free (F := F) c 1 ∗ WBack m c 0 ∗ WRaw m c 0 ∗ xPts m c ∗ X8Raw (F := F) c 0 ∗ sndToks (F := F) c ∗ (∃ f, gxPts (F := F) c c f) ∗ W8St m c 0 ∗ recvAts (F := F) c ∗ recvCreds (F := F) c ∗ sendAts (F := F) c ∗ sxPts m c ∗ swPts m c ∗ (∃ f, oPts (F := F) c f))
      ⊢ iprop(((xPts m c ∗ sxPts m c ∗ swPts m c ∗ oPts c (outAt m c) ∗ w8Whole m c ∗ gxWhole m c ∗ free (F := F) c 0 ∗ free (F := F) c 1 ∗ WBack m c 8 ∗ semVal (barCell c) 0 ∗ recvZero (F := F) c ∗ FinSt m c 16) -∗ Ψ ⟨⟩)
        -∗ wpc c (cc0_body (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6) Ψ) := by
  rw [cc0_body_eq_skeleton]; unfold cc0_body_skel
  simp -zeta only [semSignalWord, semWaitWord, Prog.lift, Prog.bind_op, Prog.bind_ret, Prog.pure_eq_ret]
  iintro ⟨#Hr, H, Hc, Hat, Hfr0, Hfr1, Hb, Hw, Hx, Hraw, Hst, Hown, H8, Hra, Hrc, Hsa, Hsx, Hsw, Ho⟩ Hk
  iapply step_bind
  iapply (part15_spec m K c) $$ [H Hc Hat Hfr0 Hfr1 Hb Hw Hx Hraw Hst Hown H8 Hra Hrc Hsa Hsx Hsw Ho]
  · isplitr; · iexact Hr
    isplitl [H]; · iexact H
    isplitl [Hc]; · iexact Hc
    isplitl [Hat]; · iexact Hat
    isplitl [Hfr0]; · iexact Hfr0
    isplitl [Hfr1]; · iexact Hfr1
    isplitl [Hb]; · iexact Hb
    isplitl [Hw]; · iexact Hw
    isplitl [Hx]; · iexact Hx
    isplitl [Hraw]; · iexact Hraw
    isplitl [Hst]; · iexact Hst
    isplitl [Hown]; · iexact Hown
    isplitl [H8]; · iexact H8
    isplitl [Hra]; · iexact Hra
    isplitl [Hrc]; · iexact Hrc
    isplitl [Hsa]; · iexact Hsa
    isplitl [Hsx]; · iexact Hsx
    isplitl [Hsw]; · iexact Hsw
    iexact Ho
  iintro ⟨Hx, Hsx, Hsw, Ho, Hw8, Hg, Hfr0, Hfr1, Hb, Hz, Hvz, Hf⟩
  iapply (step_fin m K c 14 14 rfl (ne_word c 14) rfl credit_rows) $$ Hr Hf; iintro Hf
  iapply (step_fin m K c 15 15 rfl (ne_word c 15) rfl credit_rows) $$ Hr Hf; iintro Hf
  iapply (step_ret (a := ⟨⟩))
  iapply Hk
  isplitl [Hx]; · iexact Hx
  isplitl [Hsx]; · iexact Hsx
  isplitl [Hsw]; · iexact Hsw
  isplitl [Ho]; · iexact Ho
  isplitl [Hw8]; · iexact Hw8
  isplitl [Hg]; · iexact Hg
  isplitl [Hfr0]; · iexact Hfr0
  isplitl [Hfr1]; · iexact Hfr1
  isplitl [Hb]; · iexact Hb
  isplitl [Hz]; · iexact Hz
  isplitl [Hvz]; · iexact Hvz
  iexact Hf

end Cert.Exchange

end
-- ==== Proof.Deal.lean ====
/-
The launch deals each device its part of the protocol: the cells' invariants at some names, the device's positions, and
the tokens of the duties it pays. A cell's tokens are minted with the cell; device `c` pays duty `c` of the barrier and
receive cells of every other device, so those tokens change hands across the mesh. The credit a device waits with is
what the others owe its cells.
-/
module

public import proofs.«01_k».proof.Proof.Body

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores -/

/-- Send, receive, and the two of the copies of `w`. -/
abbrev osem : Fin 16 ⊕ (Fin 16 ⊕ Fin 2) → SemLoc sig
  | .inl e => .dma (sendS e)
  | .inr (.inl e) => .dma (recvS e)
  | .inr (.inr s) => .dma (wS s)

theorem ownSemFacts : Pipeline.OwnSemFacts cfg0.spec osem := by decide

theorem bigSep_role {M : Type} [URA M] (Φ : Role → sProp M) :
    bigSep Finset.univ Φ = iprop(Φ .bar ∗ (bigSep Finset.univ fun e => Φ (.send e)) ∗ bigSep Finset.univ fun e => Φ (.recv e)) := by
  rw [bigSep_univ_equiv roleEquiv, bigSep_univ_sum, bigSep_univ_sum, Finset.univ_unique, bigSep_singleton]; rfl

/-- The counters of the copies of `w` at zero. -/
def wZero (c : Dev nD) : sProp 𝕄 := iprop(semVal (wCell c 0) 0 ∗ semVal (wCell c 1) 0)

theorem own_zero (c : Dev nD) : (Pipeline.ownSems0 (Ix := Unit) (Name := ℕ) (U := UU) (Lvl := ℕ) (Val := Elt F) (τ := τ) osem c : sProp 𝕄)
    = iprop(sendZero c ∗ recvZero c ∗ wZero c) := by
  unfold Pipeline.ownSems0
  rw [bigSep_univ_sum, bigSep_univ_sum, fin2_sep]; rfl

theorem unscoped_zero (c : Dev nD) : (unscopedSems0 c : sProp 𝕄) = semVal (barCell c) 0 := by
  unfold unscopedSems0; rw [bigSep_eq_bigSepL_of_eq [SemLoc.reg barS] (by decide) (by decide)]; rfl

/-! ## The cells and the tokens -/

theorem kcell_injective : Function.Injective kcell := fun a b h =>
  Prod.ext (congrArg (fun g : GSem nD τ sig => g.1.1) h) (csem_injective (congrArg Prod.snd h))

def exCells : Finset (GSem nD τ sig) := Finset.univ.map ⟨kcell, kcell_injective⟩

/-- The token of duty `e`: of the barrier cell, of the send cell of `e`, of the receive cell of `e`. -/
def tokRole : Fin 16 ⊕ (Fin 16 ⊕ Fin 16) → Role × Fin 16
  | .inl e => (.bar, e)
  | .inr (.inl e) => (.send e, e)
  | .inr (.inr e) => (.recv e, e)

theorem tokRole_injective : Function.Injective tokRole := by
  rintro (a | a | a) (b | b | b) h <;> cases h <;> rfl

def tokOf (x : Dev nD × (Fin 16 ⊕ (Fin 16 ⊕ Fin 16))) : GSem nD τ sig × ℕ × Dev nD := (kcell (x.1, (tokRole x.2).1), 0, (tokRole x.2).2)

theorem tokOf_injective : Function.Injective tokOf := fun a b h => by
  have h1 := kcell_injective (congrArg Prod.fst h)
  have h2 : (tokRole a.2).2 = (tokRole b.2).2 := congrArg (fun x => x.2.2) h
  have h3 : (a.1, (tokRole a.2).1) = (b.1, (tokRole b.2).1) := h1
  exact Prod.ext (Prod.mk.inj h3).1 (tokRole_injective (Prod.ext (Prod.mk.inj h3).2 h2))

def exToks : Finset (GSem nD τ sig × ℕ × Dev nD) := Finset.univ.map ⟨tokOf, tokOf_injective⟩

/-- The tokens of device `c`'s own cells. -/
def minted (c : Dev nD) : sProp 𝕄 :=
  iprop((bigSep Finset.univ fun e : Fin 16 => dutyTok ER (barCell c) 0 e) ∗ (bigSep Finset.univ fun e : Fin 16 => dutyTok ER (sendCell c e) 0 e)
    ∗ bigSep Finset.univ fun e : Fin 16 => dutyTok ER (recvCell c e) 0 e)

/-- The launch's user element. -/
def u₀ : UU := (initOf (Pipeline.cells cfgs cellOf_inj) (Pipeline.launchToks cfgs cellOf_inj), (initOf exCells exToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What the user element deals device `c`. -/
def dealt (c : Dev nD) : sProp 𝕄 :=
  iprop((bigSep Finset.univ fun k : Role => roundState ER (exRd m) (kcell (c, k)) 0)
    ∗ (bigSep Finset.univ fun k : Role => iprop(atPos ER (kcell (c, k)) 0 ∅ 0 ∗ reached ER (kcell (c, k)) 0)) ∗ minted c)

theorem fund_all : BI.own (ER (initOf exCells exToks)) ⊢ (|==> bigSep Finset.univ (dealt m) : sProp 𝕄) := by
  have hX (Φ : GSem nD τ sig → sProp 𝕄) : bigSep exCells Φ = bigSep Finset.univ fun c : Dev nD => bigSep Finset.univ fun k : Role => Φ (kcell (c, k)) := by
    unfold exCells; rw [bigSep_map, bigSep_univ_prod]; rfl
  have hT : bigSep exToks (fun x => (dutyTok ER x.1 x.2.1 x.2.2 : sProp 𝕄)) = bigSep Finset.univ fun c : Dev nD => minted c := by
    unfold exToks; rw [bigSep_map, bigSep_univ_prod]
    exact bigSep_congr fun c _ => by rw [bigSep_univ_sum, bigSep_univ_sum]; rfl
  iintro HX
  imod (Rounds.fund ER (exRd m) exCells exToks) $$ HX with ⟨Hst, Hr, Hat, Htok⟩
  imodintro
  ihave Hst := (Entails.of_eq (hX fun g => roundState ER (exRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat]; · iexact Hat
    iexact Hr
  iexact Htok

/-! ## The tokens change hands -/

theorem bigSep_swap {M : Type} [URA M] {k : ℕ} (Φ : Fin k → Fin k → sProp M) :
    (bigSep Finset.univ fun i => bigSep Finset.univ fun j => Φ i j) = bigSep Finset.univ fun j => bigSep Finset.univ fun i => Φ i j := by
  rw [← bigSep_univ_prod fun x : Fin k × Fin k => Φ x.1 x.2, ← bigSep_univ_prod fun x : Fin k × Fin k => Φ x.2 x.1,
    bigSep_univ_equiv (Equiv.prodComm (Fin k) (Fin k)) fun x => Φ x.1 x.2]
  rfl

theorem toks_across : (bigSep Finset.univ fun c : Dev nD => (minted c : sProp 𝕄)) ⊢ bigSep Finset.univ fun c : Dev nD => iprop(barToks c ∗ sndToks c) := by
  have h1 : (bigSep Finset.univ fun c : Dev nD => bigSep Finset.univ fun e : Fin 16 => (dutyTok ER (barCell c) 0 e : sProp 𝕄))
      = bigSep Finset.univ fun c : Dev nD => bigSep Finset.univ fun e : Fin 16 => (dutyTok ER (barCell e) 0 c : sProp 𝕄) :=
    bigSep_swap fun c e : Fin 16 => (dutyTok ER (barCell c) 0 e : sProp 𝕄)
  have h2 : (bigSep Finset.univ fun c : Dev nD => bigSep Finset.univ fun e : Fin 16 => (dutyTok ER (recvCell c e) 0 e : sProp 𝕄))
      = bigSep Finset.univ fun c : Dev nD => bigSep Finset.univ fun e : Fin 16 => (dutyTok ER (recvCell e c) 0 c : sProp 𝕄) :=
    bigSep_swap fun c e : Fin 16 => (dutyTok ER (recvCell c e) 0 e : sProp 𝕄)
  unfold minted
  rw [bigSep_sep', bigSep_sep', h1, h2, ← bigSep_sep', ← bigSep_sep']
  refine all_mono fun c => ?_
  unfold barToks sndToks
  rw [← bigSep_sep', ← bigSep_sep', ← bigSep_sep']
  refine all_mono fun e => ?_
  by_cases he : e = c
  · rw [if_pos he, if_pos he]
    iintro -
    isplitr <;> iempintro
  · rw [if_neg he, if_neg he]

/-! ## The invariants are allocated, and everything handed out -/

/-- The cells' invariants at names `K`, each cell's first round reached. -/
def marks (K : Dev nD × Role → ℕ) : sProp 𝕄 :=
  bigSep Finset.univ fun ck : Dev nD × Role => iprop(cellInv ER (exRd m) (K ck) (kcell ck) ∗ reached ER (kcell ck) 0)

instance (K : Dev nD × Role → ℕ) : BI.Persistent (marks (F := F) m K) := by unfold marks; infer_instance

/-- What is device `c`'s alone. -/
def mine (c : Dev nD) : sProp 𝕄 := iprop((atPos ER (barCell c) 0 ∅ 0 ∗ sendAts c ∗ recvAts c) ∗ (barToks c ∗ sndToks c) ∗ wZero c)

/-- What the launch makes of it all for device `c`. -/
def given (c : Dev nD) : sProp 𝕄 := iprop(∃ K, marks m K ∗ mine c)

/-- Device `c`'s share before the tokens change hands. -/
def opened (c : Dev nD) : sProp 𝕄 :=
  iprop((bigSep Finset.univ fun k : Role => iprop(∃ κ : ℕ, cellInv ER (exRd m) κ (kcell (c, k))))
    ∗ (bigSep Finset.univ fun k : Role => iprop(atPos ER (kcell (c, k)) 0 ∅ 0 ∗ reached ER (kcell (c, k)) 0)) ∗ minted c ∗ wZero c)

theorem open_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> opened m c := by
  have h : iprop((bigSep Finset.univ fun k : Role => semVal (kcell (c, k)) 0) ∗ bigSep Finset.univ fun k : Role => roundState ER (exRd m) (kcell (c, k)) 0)
      ⊢ (|={Set.univ}=> bigSep Finset.univ fun k : Role => iprop(∃ κ : ℕ, cellInv ER (exRd m) κ (kcell (c, k))) : sProp 𝕄) := by
    rw [← bigSep_sep']
    exact (bigSep_mono fun k _ => (Rounds.body_intro ER (exRd m) (kcell (c, k))).trans inv_alloc).trans (bigSep_fupd _ _)
  rw [bigSep_role fun k => (semVal (kcell (c, k)) 0 : sProp 𝕄)] at h
  rw [own_zero, unscoped_zero]
  unfold dealt opened sendZero recvZero
  iintro ⟨⟨Hs, Hr, Hw⟩, Hb, Hst, Hat, Htok⟩
  imod h $$ [Hs Hr Hb Hst] with Hinv
  · isplitl [Hs Hr Hb]
    · isplitl [Hb]; · iexact Hb
      isplitl [Hs]; · iexact Hs
      iexact Hr
    iexact Hst
  imodintro
  isplitl [Hinv]; · iexact Hinv
  isplitl [Hat]; · iexact Hat
  isplitl [Htok]; · iexact Htok
  iexact Hw

theorem hand_out : (bigSep Finset.univ (opened m) : sProp 𝕄) ⊢ bigSep Finset.univ (given m) := by
  have hat : (bigSep Finset.univ fun c : Dev nD => bigSep Finset.univ fun k : Role => (atPos ER (kcell (c, k)) 0 ∅ 0 : sProp 𝕄))
      = bigSep Finset.univ fun c : Dev nD => iprop(atPos ER (barCell c) 0 ∅ 0 ∗ sendAts c ∗ recvAts c) :=
    bigSep_congr fun c _ => bigSep_role _
  have hsep : (bigSep Finset.univ (opened m) : sProp 𝕄)
      = iprop((bigSep Finset.univ fun ck : Dev nD × Role => iprop(∃ κ : ℕ, cellInv ER (exRd m) κ (kcell ck)))
        ∗ ((bigSep Finset.univ fun c : Dev nD => iprop(atPos ER (barCell c) 0 ∅ 0 ∗ sendAts c ∗ recvAts c))
          ∗ bigSep Finset.univ fun ck : Dev nD × Role => reached ER (kcell ck) 0)
        ∗ (bigSep Finset.univ fun c : Dev nD => minted c) ∗ bigSep Finset.univ fun c : Dev nD => wZero c) := by
    unfold opened
    rw [bigSep_sep', bigSep_sep', bigSep_sep', bigSep_congr (s := Finset.univ) (fun (c : Dev nD) _ => bigSep_sep' Finset.univ (fun k : Role => (atPos ER (kcell (c, k)) 0 ∅ 0 : sProp 𝕄)) fun k => reached ER (kcell (c, k)) 0),
      bigSep_sep', hat, bigSep_univ_prod (fun ck : Dev nD × Role => (reached ER (kcell ck) 0 : sProp 𝕄)), bigSep_univ_prod (fun ck : Dev nD × Role => iprop(∃ κ : ℕ, cellInv ER (exRd (F := F) m) κ (kcell ck)))]
  rw [hsep]
  iintro ⟨HI, ⟨Hat, HR⟩, Htok, Hw⟩
  ihave HK := (BI.bigSep_exists_pi Finset.univ (fun (ck : Dev nD × Role) (κ : ℕ) => (cellInv ER (exRd m) κ (kcell ck) : sProp 𝕄))) $$ HI
  icases HK with ⟨%K, HI⟩
  ihave Htok := (toks_across (F := F)) $$ Htok
  have hm : iprop((bigSep Finset.univ fun ck : Dev nD × Role => cellInv ER (exRd m) (K ck) (kcell ck)) ∗ bigSep Finset.univ fun ck : Dev nD × Role => reached ER (kcell ck) 0)
      ⊢ (marks (F := F) m K : sProp 𝕄) := by unfold marks; rw [← bigSep_sep']
  have hl : iprop((bigSep Finset.univ fun c : Dev nD => iprop(atPos ER (barCell c) 0 ∅ 0 ∗ sendAts c ∗ recvAts c))
        ∗ (bigSep Finset.univ fun c : Dev nD => iprop(barToks c ∗ sndToks c)) ∗ bigSep Finset.univ fun c : Dev nD => wZero c)
      ⊢ (bigSep Finset.univ fun c : Dev nD => mine (F := F) c : sProp 𝕄) := by unfold mine; rw [← bigSep_sep', ← bigSep_sep']
  have hg : iprop(marks m K ∗ bigSep Finset.univ fun c : Dev nD => mine (F := F) c) ⊢ (bigSep Finset.univ (given m) : sProp 𝕄) :=
    (sep_mono_left (BI.bigSep_of_persistent Finset.univ (marks m K))).trans (by
      rw [← bigSep_sep']
      exact all_mono fun c => by unfold given; iintro H; iexists K; iexact H)
  iapply hg
  isplitl [HI HR]
  · iapply hm
    isplitl [HI]; · iexact HI
    iexact HR
  iapply hl
  isplitl [Hat]; · iexact Hat
  isplitl [Htok]; · iexact Htok
  iexact Hw

theorem deal : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (given m) :=
  ((all_mono fun c => open_cells m c).trans (bigSep_fupd _ _)).trans (BI.fupd_mono (hand_out m))

/-! ## The credit -/

/-- What the others owe device `c`'s cells. -/
def due (c : Dev nD) : CellTallies nD τ sig Unit :=
  (∑ e : Dev nD, if e ≠ c then tallyAt (recvCell c e) () N else 0) + tallyAt (barCell c) () 15

theorem sum_units (g : GSem nD τ sig) (s : Finset (Dev nD)) : (∑ _d ∈ s, tallyAt g () 1 : CellTallies nD τ sig Unit) = tallyAt g () s.card := by
  induction s using Finset.induction_on with
  | empty => rw [Finset.sum_empty, Finset.card_empty, tallyAt_zero]
  | insert a s ha ih => rw [Finset.sum_insert ha, ih, tallyAt_add, Finset.card_insert_of_notMem ha, Nat.add_comm]

theorem due_sum : (∑ d, O₀ d) = ∑ d, due d := by
  unfold O₀ due owedR owedB
  rw [Finset.sum_add_distrib, Finset.sum_add_distrib]
  congr 1
  · rw [Finset.sum_comm]
    refine Finset.sum_congr rfl fun e _ => Finset.sum_congr rfl fun d _ => ?_
    exact if_congr ⟨fun h h' => h.1 h'.symm, fun h => ⟨fun h' => h h'.symm, Nat.zero_le _⟩⟩ rfl rfl
  · rw [Finset.sum_comm]
    refine Finset.sum_congr rfl fun e _ => ?_
    have h : ∀ d : Dev nD, (if e ≠ d ∧ 0 ≤ e.val then tallyAt (barCell e) () 1 else 0 : CellTallies nD τ sig Unit)
        = if d ∈ Finset.univ.erase e then tallyAt (barCell e) () 1 else 0 := fun d =>
      if_congr ⟨fun h => Finset.mem_erase.mpr ⟨fun h' => h.1 h'.symm, Finset.mem_univ _⟩, fun h => ⟨fun h' => (Finset.mem_erase.mp h).1 h'.symm, Nat.zero_le _⟩⟩ rfl rfl
    rw [Finset.sum_congr rfl fun d _ => h d, Finset.sum_ite_mem, Finset.univ_inter, sum_units,
      Finset.card_erase_of_mem (Finset.mem_univ _), Finset.card_univ, Fintype.card_fin]; rfl

theorem due_own (d : Dev nD) (g : GSem nD τ sig) (h : due d g ≠ 0) : g.1 = (d.tc : Thread nD τ) := by
  by_contra hg
  refine h ?_
  unfold due
  rw [Pi.add_apply, tallyAt_ne_cell (fun h' => hg (congrArg Prod.fst h')), add_zero, Finset.sum_apply]
  refine Finset.sum_eq_zero fun e _ => ?_
  split
  · exact tallyAt_ne_cell (fun h' => hg (congrArg Prod.fst h')) () N
  · rfl

theorem credit (c : Dev nD) : (Pipeline.launchCred O₀ c : sProp 𝕄) ⊢ iprop(recvCreds c ∗ cred (tallyAt (barCell c) () 15)) := by
  have h : (cred (∑ e : Dev nD, if e ≠ c then tallyAt (recvCell c e) () N else 0 : CellTallies nD τ sig Unit) : sProp 𝕄) ⊢ recvCreds c := by
    unfold recvCreds
    rw [Pipeline.cred_finsetSum]
    refine all_mono fun e => ?_
    by_cases he : e = c
    · rw [if_pos he]; iintro -; iempintro
    · rw [if_neg he, if_pos he]
  rw [Pipeline.launchCred_of_sum O₀ due due_sum due_own c]
  unfold due
  refine (cred_add _ _).1.trans ?_
  exact sep_mono_left h

end Cert.Exchange

end
-- ==== Proof.Launch.lean ====
/-
The launch: the pipeline's proof data, the body's obligation, and the run of the program.
-/
module

public import proofs.«01_k».proof.Proof.Deal
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What device `c`'s body starts from, beside the scratch buffers. -/
def begun (c : Dev nD) : sProp 𝕄 :=
  iprop(given m c ∗ (recvCreds c ∗ cred (tallyAt (barCell c) () 15)) ∗ levAts L lv ∗ wWhole m c)

/-- The scratch buffers, at some contents. -/
def scratch (c : Dev nD) : sProp 𝕄 :=
  iprop(someAt c cc0_scratch0 ∗ someAt c cc0_scratch1 ∗ someAt c cc0_scratch2 ∗ someAt c cc0_scratch3)

/-- Before the body, and after it. -/
def before (c : Dev nD) : sProp 𝕄 := iprop(begun m c ∗ scratch c)
def afterwards (c : Dev nD) : sProp 𝕄 :=
  iprop((wWhole m c ∗ semVal (barCell c) 0) ∗ (sendZero c ∗ recvZero c ∗ wZero c) ∗ scratch c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => sxstg m c
    | ⟨2, _⟩ => swstg m c
    | ⟨3, _⟩ => outAt m c
  Φ t := match t with
    | ⟨0, _⟩ => before m c
    | ⟨_ + 1, _⟩ => afterwards m c
  q _ := fullShare
  owed t := match t with
    | ⟨0, _⟩ => O₀ c
    | ⟨_ + 1, _⟩ => 0

/-! ## The body's obligation -/

theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer, holding `X`. -/
def staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem staged_elim {c : Dev nD} {b : Ref sig .tc} {X : b.ty.Contents (Elt F)} : staged c b X ⊢ (((c : Thread nD τ).loc b) ↦{fullShare} X : sProp 𝕄) := by
  unfold staged
  iintro ⟨%f, %hf, H⟩
  subst hf
  iexact H

theorem staged_intro {c : Dev nD} {b : Ref sig .tc} {X : b.ty.Contents (Elt F)} : (((c : Thread nD τ).loc b) ↦{fullShare} X : sProp 𝕄) ⊢ staged c b X := by
  unfold staged
  iintro H
  iexists X
  isplitr; · ipureintro; rfl
  iexact H

def bodyPre (c : Dev nD) : sProp 𝕄 :=
  iprop(before m c ∗ (dats m 0 c).owesAt () t0_0.castSucc
    ∗ (∃ d, staged c cc0_stg0_0 ((dats m 0 c).before (0 : Fin 4) t0_0 d))
    ∗ (∃ d, staged c cc0_stg1_0 ((dats m 0 c).before (1 : Fin 4) t0_0 d))
    ∗ (∃ d, staged c cc0_stg2_0 ((dats m 0 c).before (2 : Fin 4) t0_0 d))
    ∗ (∃ d, staged c cc0_stg3_0 ((dats m 0 c).before (3 : Fin 4) t0_0 d)))

def bodyPost (c : Dev nD) : sProp 𝕄 :=
  iprop(afterwards m c ∗ (dats m 0 c).owesAt () t0_0.succ
    ∗ staged c cc0_stg0_0 (xstg m c) ∗ staged c cc0_stg1_0 (sxstg m c) ∗ staged c cc0_stg2_0 (swstg m c) ∗ staged c cc0_stg3_0 (outAt m c))

theorem before_x (c : Dev nD) (d) : (dats m 0 c).before (0 : Fin 4) t0_0 d = xstg m c := by
  unfold Dat.before; rw [if_pos (fetch0_0 t0_0)]; rfl
theorem before_sx (c : Dev nD) (d) : (dats m 0 c).before (1 : Fin 4) t0_0 d = sxstg m c := by
  unfold Dat.before; rw [if_pos (fetch0_1 t0_0)]; rfl
theorem before_sw (c : Dev nD) (d) : (dats m 0 c).before (2 : Fin 4) t0_0 d = swstg m c := by
  unfold Dat.before; rw [if_pos (fetch0_2 t0_0)]; rfl

theorem owes_in (c : Dev nD) : (dats m 0 c).owesAt () t0_0.castSucc ⊢ (owesX (F := F) c (O₀ c) : sProp 𝕄) := by
  unfold Dat.owesAt Pipeline.owesWithin owesX
  iintro ⟨%W, %hW, H⟩
  iexists W
  iexact H

theorem owes_out (c : Dev nD) : (owesX (F := F) c 0 : sProp 𝕄) ⊢ (dats m 0 c).owesAt () t0_0.succ := by
  unfold Dat.owesAt Pipeline.owesWithin owesX
  iintro ⟨%W, H⟩
  iexists W
  isplitr; · ipureintro; exact fun _ _ => Or.inl trivial
  iexact H

theorem body_run (c : Dev nD) : bodyPre m c ⊢ wpc c (cc0_body (F := F) xM (Memref.isWhole_whole _) wM (Memref.isWhole_whole _) sxM (Memref.isWhole_whole _) swM (Memref.isWhole_whole _) oM (Memref.isWhole_whole _) x8M (Memref.isWhole_whole _) gxM (Memref.isWhole_whole _) w8M (Memref.isWhole_whole _) wsM (Memref.isWhole_whole _) cc0_scratch4 cc0_scratch5 cc0_scratch6) (fun _ => bodyPost m c) := by
  have hx : iprop(∃ d, staged c cc0_stg0_0 ((dats m 0 c).before (0 : Fin 4) t0_0 d)) ⊢ xPts m c := by
    unfold xPts
    iintro ⟨%d, H⟩; rw [before_x]; iapply staged_elim; iexact H
  have hsx : iprop(∃ d, staged c cc0_stg1_0 ((dats m 0 c).before (1 : Fin 4) t0_0 d)) ⊢ sxPts m c := by
    unfold sxPts
    iintro ⟨%d, H⟩; rw [before_sx]; iapply staged_elim; iexact H
  have hsw : iprop(∃ d, staged c cc0_stg2_0 ((dats m 0 c).before (2 : Fin 4) t0_0 d)) ⊢ swPts m c := by
    unfold swPts
    iintro ⟨%d, H⟩; rw [before_sw]; iapply staged_elim; iexact H
  have ho : iprop(∃ d, staged c cc0_stg3_0 ((dats m 0 c).before (3 : Fin 4) t0_0 d)) ⊢ iprop(∃ f, oPts (F := F) c f) := by
    unfold oPts
    iintro ⟨%d, H⟩; iexists ((dats m 0 c).before (3 : Fin 4) t0_0 d); iapply staged_elim; iexact H
  have hrec : ∀ K, iprop(marks m K ∗ levAts L lv) ⊢ recs m K := fun K => by unfold marks recs; exact .rfl
  unfold bodyPre before begun given mine wZero scratch
  iintro ⟨⟨⟨⟨%K, Hm, ⟨Hab, Hsa, Hra⟩, ⟨Hbt, Hst⟩, Hwz⟩, ⟨Hrc, Hcb⟩, Hlv, HW⟩, Hs0, Hs1, Hs2, Hs3⟩, HO, Hx, Hsx, Hsw, Ho⟩
  ihave #Hr := (hrec K) $$ [Hm Hlv]
  · isplitl [Hm]; · iexact Hm
    iexact Hlv
  ihave HO := (owes_in m c) $$ HO
  ihave Hx := hx $$ Hx
  ihave Hsx := hsx $$ Hsx
  ihave Hsw := hsw $$ Hsw
  ihave Ho := ho $$ Ho
  ihave Hx8 := (x8_in c) $$ Hs0
  ihave Hs1 := (gx_in c) $$ Hs1
  icases Hs1 with ⟨Hown, Hcols⟩
  ihave Hw8 := (w8_in m c) $$ Hs2
  ihave Hs3 := (slots_in c) $$ Hs3 Hwz
  icases Hs3 with ⟨Hf0, Hf1⟩
  ihave HW := (w_in m c) $$ HW
  icases HW with ⟨HWb, HWr⟩
  ihave HS := (sig_in c) $$ HO [Hbt Hcols]
  · isplitl [Hbt]; · iexact Hbt
    iexact Hcols
  iapply (run_body m K c) $$ [HS Hcb Hab Hf0 Hf1 HWb HWr Hx Hx8 Hst Hown Hw8 Hra Hrc Hsa Hsx Hsw Ho]
  · isplitr; · iexact Hr
    isplitl [HS]; · iexact HS
    isplitl [Hcb]; · iexact Hcb
    isplitl [Hab]; · iexact Hab
    isplitl [Hf0]; · iexact Hf0
    isplitl [Hf1]; · iexact Hf1
    isplitl [HWb]; · iexact HWb
    isplitl [HWr]; · iexact HWr
    isplitl [Hx]; · iexact Hx
    isplitl [Hx8]; · iexact Hx8
    isplitl [Hst]; · iexact Hst
    isplitl [Hown]; · iexact Hown
    isplitl [Hw8]; · iexact Hw8
    isplitl [Hra]; · iexact Hra
    isplitl [Hrc]; · iexact Hrc
    isplitl [Hsa]; · iexact Hsa
    isplitl [Hsx]; · iexact Hsx
    isplitl [Hsw]; · iexact Hsw
    iexact Ho
  iintro ⟨Hx, Hsx, Hsw, Ho, Hw8, Hg, Hf0, Hf1, Hb, Hz, Hvz, Hf⟩
  ihave Hf := (fin_out m c) $$ Hf
  icases Hf with ⟨HO, Hs0, Hzs⟩
  ihave Hs3 := (slots_out c) $$ [Hf0 Hf1]
  · isplitl [Hf0]; · iexact Hf0
    iexact Hf1
  icases Hs3 with ⟨Hs3, Hwz⟩
  ihave Hb := (w_out m c) $$ Hb
  ihave Hg := (gx_out m c) $$ Hg
  ihave Hw8 := (w8_out m c) $$ Hw8
  ihave HO := (owes_out m c) $$ HO
  unfold bodyPost afterwards wZero scratch xPts sxPts swPts oPts
  isplitl [Hb Hz Hzs Hvz Hwz Hs0 Hg Hw8 Hs3]
  · isplitl [Hb Hz]
    · isplitl [Hb]; · iexact Hb
      iexact Hz
    isplitl [Hzs Hvz Hwz]
    · isplitl [Hzs]; · iexact Hzs
      isplitl [Hvz]; · iexact Hvz
      iexact Hwz
    isplitl [Hs0]; · iexact Hs0
    isplitl [Hg]; · iexact Hg
    isplitl [Hw8]; · iexact Hw8
    iexact Hs3
  isplitl [HO]; · iexact HO
  isplitl [Hx]; · iapply staged_intro; iexact Hx
  isplitl [Hsx]; · iapply staged_intro; iexact Hsx
  isplitl [Hsw]; · iapply staged_intro; iexact Hsw
  iapply staged_intro; iexact Ho

/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_buffer]
  exact body_run m c

/-! ## The launch's side conditions -/

theorem share_eq (c : Dev nD) (w : Fin cfg0.W) : (dats m 0 c).share w = fullShare := by unfold Dat.share; split <;> rfl

theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m c)
      ⊢ |={Set.univ}=> iprop(begun m c ∗ emp) := by
  rw [Pipeline.unscopedRestP_none, unscopedRest0_eq]
  iintro ⟨HW, Hlev, Hcr, -, HG⟩
  ihave Hc := (credit (F := F) c) $$ Hcr
  imodintro
  unfold begun
  isplitl
  · isplitl [HG]; · iexact HG
    isplitl [Hc]; · iexact Hc
    isplitl [Hlev]; · iexact Hlev
    unfold wWhole warr; iexact HW
  · iempintro

theorem enter (c : Dev nD) :
    iprop(begun m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch someAt
  iintro ⟨Hs, -, Hr⟩
  isplitl [Hs]; · iexact Hs
  iexact Hr

theorem leave (c : Dev nD) :
    (dats m 0 c).Φ (Fin.last cfg0.N) ⊢ iprop((wWhole m c ∗ unscopedSems0 c) ∗ Pipeline.ownSems0 osem c ∗ Pipeline.scopedRest cfg0.spec c) := by
  rw [show (dats m 0 c).Φ (Fin.last cfg0.N) = afterwards m c from rfl, scopedRest0_eq, own_zero, unscoped_zero]
  unfold afterwards scratch someAt
  exact .rfl

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What is read at the end beside the windowed arrays: `w`, and the unscoped counters. -/
def ReadAt (c : Dev nD) (s : MemSt nD τ sig (Elt F)) : Prop :=
  s.mem ((c : Thread nD τ).loc main_arg1) = warr m c ∧ ∀ sm : SemLoc sig, sm.isScoped .tc = false → s.sem ((c.tc : Thread nD τ), sm) = 0

theorem read_end (c : Dev nD) (s' : Phys nD τ sig (Elt F)) :
    iprop((wWhole m c ∗ unscopedSems0 c) ∗ emp ∗ SI s') ⊢ |={Set.univ}=> (iprop(⌜ReadAt m c s'.mem⌝ ∗ SI s') : sProp 𝕄) := by
  have hw : iprop(wWhole m c ∗ SI s') ⊢ (iprop(⌜s'.mem.mem ((c : Thread nD τ).loc main_arg1) = warr m c⌝ ∗ SI s') : sProp 𝕄) := by
    have h := pointsTo_read_all (Ix := Unit) (Name := ℕ) (U := UU) (Lvl := ℕ) ({main_arg1} : Finset (Ref sig .tc)) (fun b => (c : Thread nD τ).loc b) (fun b => m ((c : Thread nD τ).loc b)) s'
    rw [bigSep_singleton] at h
    unfold wWhole warr
    iintro H
    ihave H := h $$ H
    icases H with ⟨%hm, H⟩
    isplitr; · ipureintro; exact hm main_arg1 (Finset.mem_singleton_self _)
    iexact H
  iintro ⟨⟨Hw, Hu⟩, -, HSI⟩
  ihave H := hw $$ [Hw HSI]
  · isplitl [Hw]; · iexact Hw
    iexact HSI
  icases H with ⟨%h1, HSI⟩
  imod (Pipeline.unscopedSems0_read (X := unscopedSems0 c) (c := c) fupd_intro s') $$ [Hu HSI] with ⟨%h2, HSI⟩
  · isplitl [Hu]; · iexact Hu
    iexact HSI
  imodintro
  isplitr; · ipureintro; exact ⟨h1, h2⟩
  iexact HSI

/-! ## The run -/

/-- The windowed arrays at the end. -/
def finalA (c : Dev nD) (w : Fin cfg0.W) : Buf (Elt F) ((cfg0.win w).arr.view.loc (c : Thread nD τ)) := (dats m 0 c).arrAt w cfg0.N

/-- The final memory: the windowed arrays at their final contents, `w` as it was. -/
def Final (r : PUnit × MemSt nD τ sig (Elt F)) : Prop :=
  ∀ c : Dev nD, (∀ w : Fin cfg0.W, r.2.mem ((cfg0.win w).arr.view.loc (c : Thread nD τ)) = finalA m c w)
    ∧ r.2.mem ((c : Thread nD τ).loc main_arg1) = warr m c

/-- From any memory with every counter at zero, for any float values, the program ends with the final memory and every
    counter at zero again. -/
theorem run_main : θ_run defs (onTc (τ := τ) (main (F := F))) ⟨m, fun _ => 0, ρ⟩ (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := given m) (u₀ := u₀)
    (hu₀ := by
      unfold u₀
      iintro Hu
      ihave H := (ownU_split _ _) $$ Hu
      icases H with ⟨HP, HX⟩
      imod (fund_all m) $$ HX with HG
      imodintro
      isplitl [HP] <;> iassumption)
    (hglob := deal m)
    (hA := fun _ _ => rfl) (hpf := fun _ k => k.elim0)
    (X := begun m) (Y := fun c => iprop(wWhole m c ∗ unscopedSems0 c)) (Z := fun _ => iprop(emp))
    (hX := begin_intro m ρ) (hin := enter m) (hout := leave m)
    (QY := ReadAt m)
    (hY := read_end m)
    (hQ := fun _ h hs => ⟨fun c => ⟨(h c).1, (h c).2.2.1⟩, sem_eq_zero hs fun c => (h c).2.2.2⟩)

end Cert.Exchange

end
-- ==== Proof.Value.lean ====
/-
The value of the result: what the arrays hold when the run ends, and, in exact arithmetic, each device's result as its
block of rows of the reference's.
-/
module

public import proofs.«01_k».proof.Proof.Launch
public import Idealize.ShloMosaic.Lib.Pipeline.ValueKit
public import proofs.«01_k».proof.Proof.Gen.ReferenceIdeal.Run

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staged blocks are the arrays -/

/-- Each window's one block starts at the array's origin. -/
theorem origin_x : ∀ a, win0_0.index (0 : Fin 1) a = 0 := by decide +kernel
theorem origin_sx : ∀ a, win0_1.index (0 : Fin 1) a = 0 := by decide +kernel
theorem origin_sw : ∀ a, win0_2.index (0 : Fin 1) a = 0 := by decide +kernel
theorem origin_out : ∀ (t : Fin grid0.N) a, win0_3.index t a = 0 := by decide +kernel

theorem xstg_eq (c : Dev nD) : xstg m c = m ((c : Thread nD τ).loc main_arg0) := by
  funext i
  unfold xstg
  blk_simp
  congr 1
  blk_ext [origin_x]

theorem sxstg_eq (c : Dev nD) : sxstg m c = m ((c : Thread nD τ).loc main_arg2) := by
  funext i
  unfold sxstg
  blk_simp
  congr 1
  blk_ext [origin_sx]

theorem swstg_eq (c : Dev nD) : swstg m c = m ((c : Thread nD τ).loc main_arg3) := by
  funext i
  unfold swstg
  blk_simp
  congr 1
  blk_ext [origin_sw]

/-! ## The arrays at the end of the run -/

theorem final_x (c : Dev nD) : finalA m c (0 : Fin 4) = m ((c : Thread nD τ).loc main_arg0) :=
  (dats m 0 c).arrAt_in (0 : Fin 4) rfl _
theorem final_sx (c : Dev nD) : finalA m c (1 : Fin 4) = m ((c : Thread nD τ).loc main_arg2) :=
  (dats m 0 c).arrAt_in (1 : Fin 4) rfl _
theorem final_sw (c : Dev nD) : finalA m c (2 : Fin 4) = m ((c : Thread nD τ).loc main_arg3) :=
  (dats m 0 c).arrAt_in (2 : Fin 4) rfl _

theorem final_out (c : Dev nD) : finalA m c (3 : Fin 4) = outAt m c := by
  unfold finalA
  refine (dats m 0 c).arrAt_eq_of_covers (3 : Fin 4) (outAt m c) (by decide +kernel) fun t hf y => ?_
  obtain rfl := fin_N0 t
  show outAt m c _ = outAt m c _
  congr 1
  blk_ext [origin_out]

/-- The run, with the arrays named: the result's contents, and the arguments unchanged. -/
theorem run_value : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c =>
    have ha := (h.1 c).1
    ⟨(ha (3 : Fin 4)).trans (final_out m c), (ha (0 : Fin 4)).trans (final_x m c), (h.1 c).2,
      (ha (1 : Fin 4)).trans (final_sx m c), (ha (2 : Fin 4)).trans (final_sw m c)⟩, h.2⟩) (run_main m ρ)

/-! ## In exact arithmetic -/

section Exact

variable (M : (ℓ : Loc nD τ sig) → Buf (Elt Ideal) ℓ)

/-- The reference's result, of the whole arrays. -/
def refOut (X : FVec Ideal Cert.ReferenceIdeal.S4096x4096 .f32) (W : FVec Ideal Cert.ReferenceIdeal.S4096x2048 .f32)
    (sx sw : FVec Ideal Cert.ReferenceIdeal.S1 .f32) : FVec Ideal Cert.ReferenceIdeal.S4096x2048 .f32 :=
  maximumf (mulf (Host.dotGeneral Cert.ReferenceIdeal.dot_S4096x4096_S4096x2048_S4096x2048_1_0_0_1_n_n none X W)
      (broadcastInDim Cert.ReferenceIdeal.S4096x2048 ![0, 1] Cert.ReferenceIdeal.Gen.facts.bcast_S1x1_S4096x2048_0_1
        (broadcastInDim Cert.ReferenceIdeal.S1x1 ![1] Cert.ReferenceIdeal.Gen.facts.bcast_S1_S1x1_1 (mulf sx sw))))
    (broadcastInDim Cert.ReferenceIdeal.S4096x2048 ![] Cert.ReferenceIdeal.Gen.facts.bcast_S_S4096x2048
      (constant Cert.ReferenceIdeal.S_ .f32 0x00000000#32))

/-- The gathered panel on device `c` is row block `c` of the whole `x`: the element at row `i` and column `k` came from the
    device holding column `k`. -/
theorem gathered (c : Dev nD) (X : FVec Ideal Cert.ReferenceIdeal.S4096x4096 .f32)
    (hX : ∀ d : Dev nD, M ((d : Thread nD τ).loc main_arg0) = Layout.block ⟨2, ![4096, 256]⟩ ⟨2, ![4096, 4096]⟩ 1 16 d X)
    (i : S256x4096.Idx) (k : Cert.ReferenceIdeal.S4096x4096.Idx)
    (h0 : (k 0).val = 256 * c.val + (i 0).val) (h1 : (k 1).val = (i 1).val) : gxFull M c i = X k := by
  unfold gxFull x8Full
  rw [xstg_eq, hX]
  show X _ = X k
  congr 1
  funext a
  apply Fin.ext
  rw [Layout.Tiles.idx_val]
  match a with
  | ⟨0, _⟩ => exact h0.symm
  | ⟨1, _⟩ =>
    show (i 1).val / 256 * 256 + (i 1).val % 256 = (k 1).val
    rw [h1]; exact Nat.div_add_mod' _ _

/-- A buffer of one element has one index. -/
theorem idx0_only (j : S1.Idx) : j = idx0 := by
  funext a
  match a with
  | ⟨0, _⟩ => exact Subsingleton.elim (α := Fin 1) _ _

/-- Device `c`'s result is row block `c` of the reference's. -/
theorem out_block (c : Dev nD) (X : FVec Ideal Cert.ReferenceIdeal.S4096x4096 .f32)
    (W : FVec Ideal Cert.ReferenceIdeal.S4096x2048 .f32) (sx sw : FVec Ideal Cert.ReferenceIdeal.S1 .f32)
    (hX : ∀ d : Dev nD, M ((d : Thread nD τ).loc main_arg0) = Layout.block ⟨2, ![4096, 256]⟩ ⟨2, ![4096, 4096]⟩ 1 16 d X)
    (hW : M ((c : Thread nD τ).loc main_arg1) = W)
    (hsx : M ((c : Thread nD τ).loc main_arg2) = sx) (hsw : M ((c : Thread nD τ).loc main_arg3) = sw) :
    outAt M c = Layout.block ⟨2, ![256, 2048]⟩ ⟨2, ![4096, 2048]⟩ 0 16 c (refOut X W sx sw) := by
  funext i
  unfold outAt k0_pay28 refOut
  rw [Layout.block_apply, sxstg_eq, swstg_eq, hsx, hsw]
  refine congrArg₂ (max : EReal → EReal → EReal) (congrArg₂ ((· * ·) : EReal → EReal → EReal) ?_ ?_) ?_
  · refine (Ideal.matmul_constant_zero_apply (φ₁ := .fp8e4m3) (φ₂ := .fp8e5m2) _ none _ _ _).trans (Eq.trans ?_ (Ideal.dotGeneral_apply _ _ _ _ _ _).symm)
    refine Finset.sum_congr rfl fun k _ => congrArg₂ ((· * ·) : EReal → EReal → EReal) ?_ ?_
    · refine gathered M c X hX _ _ ?_ rfl
      show c.val * 256 + (i 0).val = 256 * c.val + (i 0).val
      rw [Nat.mul_comm]
    · show warr M c _ = W _
      unfold warr
      rw [hW]
      congr 1
      funext a
      match a with
      | ⟨0, _⟩ => rfl
      | ⟨1, _⟩ => rfl
  · show sx idx0 * sw idx0 = sx _ * sw _
    exact congrArg₂ (fun a b => sx a * sw b) (idx0_only _).symm (idx0_only _).symm
  · rfl

end Exact

end Cert.Exchange

end
-- ==== Proof.Same.lean ====
/-
The kernel with floats as words and the kernel in exact arithmetic are one text: their body tables and their entry
programs are equal, at any float values. So a run of the one is a run of the other.
-/
module

public import proofs.«01_k».proof.Proof.Gen.Kernel
public import proofs.«01_k».proof.Proof.Value

@[expose] public section

noncomputable section

namespace Cert.Exchange

open Idealize.ShloMosaic Idealize.ShloMosaic.TcCoe Idealize.SL.Sem

variable {F : FTy → Type} [FloatOps F]

/-- The kernels' tables of bodies: one label, the same body. -/
theorem same_bodies : Cert.KernelIdeal.defs₀ (F := F) = Cert.Kernel.defs₀ (F := F) :=
  congrArg Defs.onTc (funext fun ℓ => funext fun a => match ℓ, a with
    | 0, (t, s) => rfl
    | ⟨_ + 1, h⟩, _ => absurd h (Nat.not_lt.2 (Nat.le_add_left _ _)))

theorem same_defs : Cert.KernelIdeal.defs (F := F) = Cert.Kernel.defs (F := F) :=
  congrArg (Pipeline.defs Cert.Kernel.pcfgs) same_bodies

theorem same_main : Cert.KernelIdeal.main (F := F) = Cert.Kernel.main (F := F) := rfl

/-- A run under equal tables of an equal program. -/
theorem run_same {nD : ℕ} {τ : Topo} {sig : RefSig} {Val : EltTy → Type} {Λ : Labels} {D D' : Defs nD τ sig Val Λ}
    {p p' : Dev nD → Prog (TpuEff nD τ sig Val Λ .tc) PUnit} {s} {Q} (hd : D = D') (hp : p = p')
    (h : θ_run D (onTc (τ := τ) p) s Q) : θ_run D' (onTc (τ := τ) p') s Q := by
  subst hd hp; exact h

variable (m : (ℓ : Loc Cert.Kernel.nD Cert.Kernel.τ Cert.Kernel.sig) → Buf (Elt F) ℓ) (ρ : Dev Cert.Kernel.nD → PrngReg)

/-- The kernel's own run: it ends, the arguments unchanged and every counter at zero. -/
theorem run_kernel : θ_run (Cert.Kernel.defs (F := F)) (onTc (τ := Cert.Kernel.τ) (Cert.Kernel.main (F := F))) ⟨m, fun _ => 0, ρ⟩ (fun r =>
    (∀ c : Dev Cert.Kernel.nD, r.2.mem ((c : Thread Cert.Kernel.nD Cert.Kernel.τ).loc Cert.Kernel.main_arg0) = m ((c : Thread Cert.Kernel.nD Cert.Kernel.τ).loc Cert.Kernel.main_arg0)
      ∧ r.2.mem ((c : Thread Cert.Kernel.nD Cert.Kernel.τ).loc Cert.Kernel.main_arg1) = m ((c : Thread Cert.Kernel.nD Cert.Kernel.τ).loc Cert.Kernel.main_arg1)
      ∧ r.2.mem ((c : Thread Cert.Kernel.nD Cert.Kernel.τ).loc Cert.Kernel.main_arg2) = m ((c : Thread Cert.Kernel.nD Cert.Kernel.τ).loc Cert.Kernel.main_arg2)
      ∧ r.2.mem ((c : Thread Cert.Kernel.nD Cert.Kernel.τ).loc Cert.Kernel.main_arg3) = m ((c : Thread Cert.Kernel.nD Cert.Kernel.τ).loc Cert.Kernel.main_arg3))
    ∧ r.2.sem = fun _ => 0) :=
  run_same same_defs same_main
    ((θ_run Cert.KernelIdeal.defs _ _).mono (fun _ h => ⟨fun c => (h.1 c).2, h.2⟩) (run_value (F := F) m ρ))

end Cert.Exchange

end
-- ==== Proof.lean ====
/-
The claims: the kernel runs, at floats as words and in exact arithmetic, with its arguments unchanged and every counter at
zero; so does the reference; nothing was rewritten between the two kernels; and in exact arithmetic each device ends with
its block of rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel runs with floats as words: it ends, its arguments unchanged and every counter at zero. The printed text at
    the two float readings is the same, so the one run serves. -/
theorem frame_kernel : Cert.quiescent_Kernel := fun m ρ _ => Cert.Exchange.run_kernel (F := Bits) m ρ

/-- The same in exact arithmetic. -/
theorem frame_kernelIdeal : Cert.quiescent_KernelIdeal := fun m ρ _ =>
  (θ_run Cert.KernelIdeal.defs _ _).mono (fun _ h => ⟨fun c => (h.1 c).2, h.2⟩) (Cert.Exchange.run_value (F := Ideal) m ρ)

/-- The reference is a straight line of host operations, and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation was rewritten. -/
theorem preserved : Cert.preserves_Kernel_KernelIdeal := trivial

/-- In exact arithmetic each device ends with its block of rows of the reference's result. -/
theorem value : Cert.algebraic_KernelIdeal_ReferenceIdeal := fun m ρ m' ρ' _ hag =>
  ⟨Cert.Exchange.refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)),
    (θ_run Cert.KernelIdeal.defs _ _).mono (fun _ h c => ⟨(h.1 c).1.trans
        (Cert.Exchange.out_block m c _ _ _ _ (fun d => (hag d).1) (hag c).2.1 (hag c).2.2.1 (hag c).2.2.2), (h.1 c).2⟩)
      (Cert.Exchange.run_value (F := Ideal) m ρ),
    (θ_run Cert.ReferenceIdeal.defs _ _).mono (fun _ h => h 0) (Cert.ReferenceIdeal.Value.run (F := Ideal) m' ρ')⟩

/-- The claims together, after the witnesses of the programs' stated facts. -/
theorem claim : Cert.Claim :=
  ⟨Cert.Kernel.Gen.facts, Cert.KernelIdeal.Gen.facts, Cert.ReferenceIdeal.Gen.facts,
    frame_kernel, frame_kernelIdeal, frame_reference, preserved, value⟩

end Cert.Proof

end
